-- ==== Defs.lean ====
def Pre_NormIn (m : (ℓ : Loc Cert.NormIn.nD Cert.NormIn.τ Cert.NormIn.sig) → Buf (Elt Bits) ℓ) : Prop :=
  True

def Pre_NormInIdeal (m : (ℓ : Loc Cert.NormInIdeal.nD Cert.NormInIdeal.τ Cert.NormInIdeal.sig) → Buf (Elt Ideal) ℓ) : Prop :=
  True

def Pre_NormInReferenceIdeal (m : (ℓ : Loc Cert.NormInReferenceIdeal.nD Cert.NormInReferenceIdeal.τ Cert.NormInReferenceIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def Pre_Oproj (m : (ℓ : Loc Cert.Oproj.nD Cert.Oproj.τ Cert.Oproj.sig) → Buf (Elt Bits) ℓ) : Prop :=
  True

def Pre_OprojIdeal (m : (ℓ : Loc Cert.OprojIdeal.nD Cert.OprojIdeal.τ Cert.OprojIdeal.sig) → Buf (Elt Ideal) ℓ) : Prop :=
  True

def Pre_OprojReferenceIdeal (m : (ℓ : Loc Cert.OprojReferenceIdeal.nD Cert.OprojReferenceIdeal.τ Cert.OprojReferenceIdeal.sig) → Buf (Elt Ideal) ℓ) : Prop :=
  True

def Pre_NormFf (m : (ℓ : Loc Cert.NormFf.nD Cert.NormFf.τ Cert.NormFf.sig) → Buf (Elt Bits) ℓ) : Prop :=
  True

def Pre_NormFfIdeal (m : (ℓ : Loc Cert.NormFfIdeal.nD Cert.NormFfIdeal.τ Cert.NormFfIdeal.sig) → Buf (Elt Ideal) ℓ) : Prop :=
  True

def Pre_NormFfReferenceIdeal (m : (ℓ : Loc Cert.NormFfReferenceIdeal.nD Cert.NormFfReferenceIdeal.τ Cert.NormFfReferenceIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpReferenceIdeal (m : (ℓ : Loc Cert.GateUpReferenceIdeal.nD Cert.GateUpReferenceIdeal.τ Cert.GateUpReferenceIdeal.sig) → Buf (Elt Ideal) ℓ) : Prop :=
  True

def quiescent_NormIn [hNormIn : Cert.NormIn.Facts] : Prop :=
  ∀ (m : (ℓ : Loc Cert.NormIn.nD Cert.NormIn.τ Cert.NormIn.sig) → Buf (Elt Bits) ℓ) (g : Dev Cert.NormIn.nD → PrngReg), Pre_NormIn m →
    θ_run (Cert.NormIn.defs (F := Bits)) (onTc (τ := Cert.NormIn.τ) (Cert.NormIn.main (F := Bits))) ⟨m, fun _ => 0, g⟩ (fun r => (∀ c : Dev Cert.NormIn.nD,
      r.2.mem ((c.tc : Thread Cert.NormIn.nD Cert.NormIn.τ).loc Cert.NormIn.main_arg0) = m ((c.tc : Thread Cert.NormIn.nD Cert.NormIn.τ).loc Cert.NormIn.main_arg0)
      ∧ r.2.mem ((c.tc : Thread Cert.NormIn.nD Cert.NormIn.τ).loc Cert.NormIn.main_arg1) = m ((c.tc : Thread Cert.NormIn.nD Cert.NormIn.τ).loc Cert.NormIn.main_arg1)
      ∧ r.2.mem ((c.tc : Thread Cert.NormIn.nD Cert.NormIn.τ).loc Cert.NormIn.main_arg2) = m ((c.tc : Thread Cert.NormIn.nD Cert.NormIn.τ).loc Cert.NormIn.main_arg2)
      ∧ r.2.mem ((c.tc : Thread Cert.NormIn.nD Cert.NormIn.τ).loc Cert.NormIn.main_arg3) = m ((c.tc : Thread Cert.NormIn.nD Cert.NormIn.τ).loc Cert.NormIn.main_arg3))
      ∧ r.2.sem = fun _ => 0)

def quiescent_NormInIdeal [hNormInIdeal : Cert.NormInIdeal.Facts] : Prop :=
  ∀ (m : (ℓ : Loc Cert.NormInIdeal.nD Cert.NormInIdeal.τ Cert.NormInIdeal.sig) → Buf (Elt Ideal) ℓ) (g : Dev Cert.NormInIdeal.nD → PrngReg), Pre_NormInIdeal m →
    θ_run (Cert.NormInIdeal.defs (F := Ideal)) (onTc (τ := Cert.NormInIdeal.τ) (Cert.NormInIdeal.main (F := Ideal))) ⟨m, fun _ => 0, g⟩ (fun r => (∀ c : Dev Cert.NormInIdeal.nD,
      r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
      ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1)
      ∧ r.2.mem ((c.tc : Thread Cert.NormInIdeal.nD Cert.NormInIdeal.τ).loc Cert.NormInIdeal.main_arg2) = m ((c.tc : Thread Cert.NormInIdeal.nD Cert.NormInIdeal.τ).loc Cert.NormInIdeal.main_arg2)
      ∧ r.2.mem ((c.tc : Thread Cert.NormInIdeal.nD Cert.NormInIdeal.τ).loc Cert.NormInIdeal.main_arg3) = m ((c.tc : Thread Cert.NormInIdeal.nD Cert.NormInIdeal.τ).loc Cert.NormInIdeal.main_arg3))
      ∧ r.2.sem = fun _ => 0)

def quiescent_NormInReferenceIdeal [hNormInReferenceIdeal : Cert.NormInReferenceIdeal.Facts] : Prop :=
  ∀ (m : (ℓ : Loc Cert.NormInReferenceIdeal.nD Cert.NormInReferenceIdeal.τ Cert.NormInReferenceIdeal.sig) → Buf (Elt Ideal) ℓ) (g : Dev Cert.NormInReferenceIdeal.nD → PrngReg), Pre_NormInReferenceIdeal m →
    θ_run (Cert.NormInReferenceIdeal.defs (F := Ideal)) (onTc (τ := Cert.NormInReferenceIdeal.τ) (Cert.NormInReferenceIdeal.main (F := Ideal))) ⟨m, fun _ => 0, g⟩ (fun r => (∀ c : Dev Cert.NormInReferenceIdeal.nD,
      r.2.mem ((c.tc : Thread Cert.NormInReferenceIdeal.nD Cert.NormInReferenceIdeal.τ).loc Cert.NormInReferenceIdeal.main_arg0) = m ((c.tc : Thread Cert.NormInReferenceIdeal.nD Cert.NormInReferenceIdeal.τ).loc Cert.NormInReferenceIdeal.main_arg0)
      ∧ r.2.mem ((c.tc : Thread Cert.NormInReferenceIdeal.nD Cert.NormInReferenceIdeal.τ).loc Cert.NormInReferenceIdeal.main_arg1) = m ((c.tc : Thread Cert.NormInReferenceIdeal.nD Cert.NormInReferenceIdeal.τ).loc Cert.NormInReferenceIdeal.main_arg1)
      ∧ r.2.mem ((c.tc : Thread Cert.NormInReferenceIdeal.nD Cert.NormInReferenceIdeal.τ).loc Cert.NormInReferenceIdeal.main_arg2) = m ((c.tc : Thread Cert.NormInReferenceIdeal.nD Cert.NormInReferenceIdeal.τ).loc Cert.NormInReferenceIdeal.main_arg2)
      ∧ r.2.mem ((c.tc : Thread Cert.NormInReferenceIdeal.nD Cert.NormInReferenceIdeal.τ).loc Cert.NormInReferenceIdeal.main_arg3) = m ((c.tc : Thread Cert.NormInReferenceIdeal.nD Cert.NormInReferenceIdeal.τ).loc Cert.NormInReferenceIdeal.main_arg3))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1)
      ∧ r.2.mem ((c.tc : Thread Cert.QkvReferenceIdeal.nD Cert.QkvReferenceIdeal.τ).loc Cert.QkvReferenceIdeal.main_arg2) = m ((c.tc : Thread Cert.QkvReferenceIdeal.nD Cert.QkvReferenceIdeal.τ).loc Cert.QkvReferenceIdeal.main_arg2)
      ∧ r.2.mem ((c.tc : Thread Cert.QkvReferenceIdeal.nD Cert.QkvReferenceIdeal.τ).loc Cert.QkvReferenceIdeal.main_arg3) = m ((c.tc : Thread Cert.QkvReferenceIdeal.nD Cert.QkvReferenceIdeal.τ).loc Cert.QkvReferenceIdeal.main_arg3)
      ∧ r.2.mem ((c.tc : Thread Cert.QkvReferenceIdeal.nD Cert.QkvReferenceIdeal.τ).loc Cert.QkvReferenceIdeal.main_arg4) = m ((c.tc : Thread Cert.QkvReferenceIdeal.nD Cert.QkvReferenceIdeal.τ).loc Cert.QkvReferenceIdeal.main_arg4)
      ∧ r.2.mem ((c.tc : Thread Cert.QkvReferenceIdeal.nD Cert.QkvReferenceIdeal.τ).loc Cert.QkvReferenceIdeal.main_arg5) = m ((c.tc : Thread Cert.QkvReferenceIdeal.nD Cert.QkvReferenceIdeal.τ).loc Cert.QkvReferenceIdeal.main_arg5))
      ∧ r.2.sem = fun _ => 0)

def quiescent_Oproj [hOproj : Cert.Oproj.Facts] : Prop :=
  ∀ (m : (ℓ : Loc Cert.Oproj.nD Cert.Oproj.τ Cert.Oproj.sig) → Buf (Elt Bits) ℓ) (g : Dev Cert.Oproj.nD → PrngReg), Pre_Oproj m →
    θ_run (Cert.Oproj.defs (F := Bits)) (onTc (τ := Cert.Oproj.τ) (Cert.Oproj.main (F := Bits))) ⟨m, fun _ => 0, g⟩ (fun r => (∀ c : Dev Cert.Oproj.nD,
      r.2.mem ((c.tc : Thread Cert.Oproj.nD Cert.Oproj.τ).loc Cert.Oproj.main_arg0) = m ((c.tc : Thread Cert.Oproj.nD Cert.Oproj.τ).loc Cert.Oproj.main_arg0)
      ∧ r.2.mem ((c.tc : Thread Cert.Oproj.nD Cert.Oproj.τ).loc Cert.Oproj.main_arg1) = m ((c.tc : Thread Cert.Oproj.nD Cert.Oproj.τ).loc Cert.Oproj.main_arg1)
      ∧ r.2.mem ((c.tc : Thread Cert.Oproj.nD Cert.Oproj.τ).loc Cert.Oproj.main_arg2) = m ((c.tc : Thread Cert.Oproj.nD Cert.Oproj.τ).loc Cert.Oproj.main_arg2)
      ∧ r.2.mem ((c.tc : Thread Cert.Oproj.nD Cert.Oproj.τ).loc Cert.Oproj.main_arg3) = m ((c.tc : Thread Cert.Oproj.nD Cert.Oproj.τ).loc Cert.Oproj.main_arg3))
      ∧ r.2.sem = fun _ => 0)

def quiescent_OprojIdeal [hOprojIdeal : Cert.OprojIdeal.Facts] : Prop :=
  ∀ (m : (ℓ : Loc Cert.OprojIdeal.nD Cert.OprojIdeal.τ Cert.OprojIdeal.sig) → Buf (Elt Ideal) ℓ) (g : Dev Cert.OprojIdeal.nD → PrngReg), Pre_OprojIdeal m →
    θ_run (Cert.OprojIdeal.defs (F := Ideal)) (onTc (τ := Cert.OprojIdeal.τ) (Cert.OprojIdeal.main (F := Ideal))) ⟨m, fun _ => 0, g⟩ (fun r => (∀ c : Dev Cert.OprojIdeal.nD,
      r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
      ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
      ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
      ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3))
      ∧ r.2.sem = fun _ => 0)

def quiescent_OprojReferenceIdeal [hOprojReferenceIdeal : Cert.OprojReferenceIdeal.Facts] : Prop :=
  ∀ (m : (ℓ : Loc Cert.OprojReferenceIdeal.nD Cert.OprojReferenceIdeal.τ Cert.OprojReferenceIdeal.sig) → Buf (Elt Ideal) ℓ) (g : Dev Cert.OprojReferenceIdeal.nD → PrngReg), Pre_OprojReferenceIdeal m →
    θ_run (Cert.OprojReferenceIdeal.defs (F := Ideal)) (onTc (τ := Cert.OprojReferenceIdeal.τ) (Cert.OprojReferenceIdeal.main (F := Ideal))) ⟨m, fun _ => 0, g⟩ (fun r => (∀ c : Dev Cert.OprojReferenceIdeal.nD,
      r.2.mem ((c.tc : Thread Cert.OprojReferenceIdeal.nD Cert.OprojReferenceIdeal.τ).loc Cert.OprojReferenceIdeal.main_arg0) = m ((c.tc : Thread Cert.OprojReferenceIdeal.nD Cert.OprojReferenceIdeal.τ).loc Cert.OprojReferenceIdeal.main_arg0)
      ∧ r.2.mem ((c.tc : Thread Cert.OprojReferenceIdeal.nD Cert.OprojReferenceIdeal.τ).loc Cert.OprojReferenceIdeal.main_arg1) = m ((c.tc : Thread Cert.OprojReferenceIdeal.nD Cert.OprojReferenceIdeal.τ).loc Cert.OprojReferenceIdeal.main_arg1)
      ∧ r.2.mem ((c.tc : Thread Cert.OprojReferenceIdeal.nD Cert.OprojReferenceIdeal.τ).loc Cert.OprojReferenceIdeal.main_arg2) = m ((c.tc : Thread Cert.OprojReferenceIdeal.nD Cert.OprojReferenceIdeal.τ).loc Cert.OprojReferenceIdeal.main_arg2)
      ∧ r.2.mem ((c.tc : Thread Cert.OprojReferenceIdeal.nD Cert.OprojReferenceIdeal.τ).loc Cert.OprojReferenceIdeal.main_arg3) = m ((c.tc : Thread Cert.OprojReferenceIdeal.nD Cert.OprojReferenceIdeal.τ).loc Cert.OprojReferenceIdeal.main_arg3))
      ∧ r.2.sem = fun _ => 0)

def quiescent_NormFf [hNormFf : Cert.NormFf.Facts] : Prop :=
  ∀ (m : (ℓ : Loc Cert.NormFf.nD Cert.NormFf.τ Cert.NormFf.sig) → Buf (Elt Bits) ℓ) (g : Dev Cert.NormFf.nD → PrngReg), Pre_NormFf m →
    θ_run (Cert.NormFf.defs (F := Bits)) (onTc (τ := Cert.NormFf.τ) (Cert.NormFf.main (F := Bits))) ⟨m, fun _ => 0, g⟩ (fun r => (∀ c : Dev Cert.NormFf.nD,
      r.2.mem ((c.tc : Thread Cert.NormFf.nD Cert.NormFf.τ).loc Cert.NormFf.main_arg0) = m ((c.tc : Thread Cert.NormFf.nD Cert.NormFf.τ).loc Cert.NormFf.main_arg0)
      ∧ r.2.mem ((c.tc : Thread Cert.NormFf.nD Cert.NormFf.τ).loc Cert.NormFf.main_arg1) = m ((c.tc : Thread Cert.NormFf.nD Cert.NormFf.τ).loc Cert.NormFf.main_arg1)
      ∧ r.2.mem ((c.tc : Thread Cert.NormFf.nD Cert.NormFf.τ).loc Cert.NormFf.main_arg2) = m ((c.tc : Thread Cert.NormFf.nD Cert.NormFf.τ).loc Cert.NormFf.main_arg2))
      ∧ r.2.sem = fun _ => 0)

def quiescent_NormFfIdeal [hNormFfIdeal : Cert.NormFfIdeal.Facts] : Prop :=
  ∀ (m : (ℓ : Loc Cert.NormFfIdeal.nD Cert.NormFfIdeal.τ Cert.NormFfIdeal.sig) → Buf (Elt Ideal) ℓ) (g : Dev Cert.NormFfIdeal.nD → PrngReg), Pre_NormFfIdeal m →
    θ_run (Cert.NormFfIdeal.defs (F := Ideal)) (onTc (τ := Cert.NormFfIdeal.τ) (Cert.NormFfIdeal.main (F := Ideal))) ⟨m, fun _ => 0, g⟩ (fun r => (∀ c : Dev Cert.NormFfIdeal.nD,
      r.2.mem ((c.tc : Thread Cert.NormFfIdeal.nD Cert.NormFfIdeal.τ).loc Cert.NormFfIdeal.main_arg0) = m ((c.tc : Thread Cert.NormFfIdeal.nD Cert.NormFfIdeal.τ).loc Cert.NormFfIdeal.main_arg0)
      ∧ r.2.mem ((c.tc : Thread Cert.NormFfIdeal.nD Cert.NormFfIdeal.τ).loc Cert.NormFfIdeal.main_arg1) = m ((c.tc : Thread Cert.NormFfIdeal.nD Cert.NormFfIdeal.τ).loc Cert.NormFfIdeal.main_arg1)
      ∧ r.2.mem ((c.tc : Thread Cert.NormFfIdeal.nD Cert.NormFfIdeal.τ).loc Cert.NormFfIdeal.main_arg2) = m ((c.tc : Thread Cert.NormFfIdeal.nD Cert.NormFfIdeal.τ).loc Cert.NormFfIdeal.main_arg2))
      ∧ r.2.sem = fun _ => 0)

def quiescent_NormFfReferenceIdeal [hNormFfReferenceIdeal : Cert.NormFfReferenceIdeal.Facts] : Prop :=
  ∀ (m : (ℓ : Loc Cert.NormFfReferenceIdeal.nD Cert.NormFfReferenceIdeal.τ Cert.NormFfReferenceIdeal.sig) → Buf (Elt Ideal) ℓ) (g : Dev Cert.NormFfReferenceIdeal.nD → PrngReg), Pre_NormFfReferenceIdeal m →
    θ_run (Cert.NormFfReferenceIdeal.defs (F := Ideal)) (onTc (τ := Cert.NormFfReferenceIdeal.τ) (Cert.NormFfReferenceIdeal.main (F := Ideal))) ⟨m, fun _ => 0, g⟩ (fun r => (∀ c : Dev Cert.NormFfReferenceIdeal.nD,
      r.2.mem ((c.tc : Thread Cert.NormFfReferenceIdeal.nD Cert.NormFfReferenceIdeal.τ).loc Cert.NormFfReferenceIdeal.main_arg0) = m ((c.tc : Thread Cert.NormFfReferenceIdeal.nD Cert.NormFfReferenceIdeal.τ).loc Cert.NormFfReferenceIdeal.main_arg0)
      ∧ r.2.mem ((c.tc : Thread Cert.NormFfReferenceIdeal.nD Cert.NormFfReferenceIdeal.τ).loc Cert.NormFfReferenceIdeal.main_arg1) = m ((c.tc : Thread Cert.NormFfReferenceIdeal.nD Cert.NormFfReferenceIdeal.τ).loc Cert.NormFfReferenceIdeal.main_arg1)
      ∧ r.2.mem ((c.tc : Thread Cert.NormFfReferenceIdeal.nD Cert.NormFfReferenceIdeal.τ).loc Cert.NormFfReferenceIdeal.main_arg2) = m ((c.tc : Thread Cert.NormFfReferenceIdeal.nD Cert.NormFfReferenceIdeal.τ).loc Cert.NormFfReferenceIdeal.main_arg2))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3)
      ∧ r.2.mem ((c.tc : Thread Cert.GateUp.nD Cert.GateUp.τ).loc Cert.GateUp.main_arg4) = m ((c.tc : Thread Cert.GateUp.nD Cert.GateUp.τ).loc Cert.GateUp.main_arg4)
      ∧ r.2.mem ((c.tc : Thread Cert.GateUp.nD Cert.GateUp.τ).loc Cert.GateUp.main_arg5) = m ((c.tc : Thread Cert.GateUp.nD Cert.GateUp.τ).loc Cert.GateUp.main_arg5))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
      ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
      ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5))
      ∧ r.2.sem = fun _ => 0)

def quiescent_GateUpReferenceIdeal [hGateUpReferenceIdeal : Cert.GateUpReferenceIdeal.Facts] : Prop :=
  ∀ (m : (ℓ : Loc Cert.GateUpReferenceIdeal.nD Cert.GateUpReferenceIdeal.τ Cert.GateUpReferenceIdeal.sig) → Buf (Elt Ideal) ℓ) (g : Dev Cert.GateUpReferenceIdeal.nD → PrngReg), Pre_GateUpReferenceIdeal m →
    θ_run (Cert.GateUpReferenceIdeal.defs (F := Ideal)) (onTc (τ := Cert.GateUpReferenceIdeal.τ) (Cert.GateUpReferenceIdeal.main (F := Ideal))) ⟨m, fun _ => 0, g⟩ (fun r => (∀ c : Dev Cert.GateUpReferenceIdeal.nD,
      r.2.mem ((c.tc : Thread Cert.GateUpReferenceIdeal.nD Cert.GateUpReferenceIdeal.τ).loc Cert.GateUpReferenceIdeal.main_arg0) = m ((c.tc : Thread Cert.GateUpReferenceIdeal.nD Cert.GateUpReferenceIdeal.τ).loc Cert.GateUpReferenceIdeal.main_arg0)
      ∧ r.2.mem ((c.tc : Thread Cert.GateUpReferenceIdeal.nD Cert.GateUpReferenceIdeal.τ).loc Cert.GateUpReferenceIdeal.main_arg1) = m ((c.tc : Thread Cert.GateUpReferenceIdeal.nD Cert.GateUpReferenceIdeal.τ).loc Cert.GateUpReferenceIdeal.main_arg1)
      ∧ r.2.mem ((c.tc : Thread Cert.GateUpReferenceIdeal.nD Cert.GateUpReferenceIdeal.τ).loc Cert.GateUpReferenceIdeal.main_arg2) = m ((c.tc : Thread Cert.GateUpReferenceIdeal.nD Cert.GateUpReferenceIdeal.τ).loc Cert.GateUpReferenceIdeal.main_arg2)
      ∧ r.2.mem ((c.tc : Thread Cert.GateUpReferenceIdeal.nD Cert.GateUpReferenceIdeal.τ).loc Cert.GateUpReferenceIdeal.main_arg3) = m ((c.tc : Thread Cert.GateUpReferenceIdeal.nD Cert.GateUpReferenceIdeal.τ).loc Cert.GateUpReferenceIdeal.main_arg3)
      ∧ r.2.mem ((c.tc : Thread Cert.GateUpReferenceIdeal.nD Cert.GateUpReferenceIdeal.τ).loc Cert.GateUpReferenceIdeal.main_arg4) = m ((c.tc : Thread Cert.GateUpReferenceIdeal.nD Cert.GateUpReferenceIdeal.τ).loc Cert.GateUpReferenceIdeal.main_arg4)
      ∧ r.2.mem ((c.tc : Thread Cert.GateUpReferenceIdeal.nD Cert.GateUpReferenceIdeal.τ).loc Cert.GateUpReferenceIdeal.main_arg5) = m ((c.tc : Thread Cert.GateUpReferenceIdeal.nD Cert.GateUpReferenceIdeal.τ).loc Cert.GateUpReferenceIdeal.main_arg5))
      ∧ r.2.sem = fun _ => 0)

def preserves_NormIn_NormInIdeal : Prop :=
  True

def algebraic_NormInIdeal_NormInReferenceIdeal [hNormInIdeal : Cert.NormInIdeal.Facts] [hNormInReferenceIdeal : Cert.NormInReferenceIdeal.Facts] : Prop :=
  ∀ (m : (ℓ : Loc Cert.NormInIdeal.nD Cert.NormInIdeal.τ Cert.NormInIdeal.sig) → Buf (Elt Ideal) ℓ) (g : Dev Cert.NormInIdeal.nD → PrngReg)
    (m' : (ℓ : Loc Cert.NormInReferenceIdeal.nD Cert.NormInReferenceIdeal.τ Cert.NormInReferenceIdeal.sig) → Buf (Elt Ideal) ℓ) (g' : Dev Cert.NormInReferenceIdeal.nD → PrngReg), Pre_NormInIdeal m →
    (∀ c : Dev Cert.NormInIdeal.nD,
      m' ((c.tc : Thread Cert.NormInReferenceIdeal.nD Cert.NormInReferenceIdeal.τ).loc Cert.NormInReferenceIdeal.main_arg0) = m ((c.tc : Thread Cert.NormInIdeal.nD Cert.NormInIdeal.τ).loc Cert.NormInIdeal.main_arg0)
      ∧ m' ((c.tc : Thread Cert.NormInReferenceIdeal.nD Cert.NormInReferenceIdeal.τ).loc Cert.NormInReferenceIdeal.main_arg1) = m ((c.tc : Thread Cert.NormInIdeal.nD Cert.NormInIdeal.τ).loc Cert.NormInIdeal.main_arg1)
      ∧ m' ((c.tc : Thread Cert.NormInReferenceIdeal.nD Cert.NormInReferenceIdeal.τ).loc Cert.NormInReferenceIdeal.main_arg2) = m ((c.tc : Thread Cert.NormInIdeal.nD Cert.NormInIdeal.τ).loc Cert.NormInIdeal.main_arg2)
      ∧ m' ((c.tc : Thread Cert.NormInReferenceIdeal.nD Cert.NormInReferenceIdeal.τ).loc Cert.NormInReferenceIdeal.main_arg3) = m ((c.tc : Thread Cert.NormInIdeal.nD Cert.NormInIdeal.τ).loc Cert.NormInIdeal.main_arg3)) →
    ∃ (v0 : (c : Dev Cert.NormInIdeal.nD) → Buf (Elt Ideal) ((c.tc : Thread Cert.NormInIdeal.nD Cert.NormInIdeal.τ).loc Cert.NormInIdeal.main_v4_0)) (v1 : (c : Dev Cert.NormInIdeal.nD) → Buf (Elt Ideal) ((c.tc : Thread Cert.NormInIdeal.nD Cert.NormInIdeal.τ).loc Cert.NormInIdeal.main_v4_1)) (v2 : (c : Dev Cert.NormInIdeal.nD) → Buf (Elt Ideal) ((c.tc : Thread Cert.NormInIdeal.nD Cert.NormInIdeal.τ).loc Cert.NormInIdeal.main_v4_2)) (v3 : (c : Dev Cert.NormInIdeal.nD) → Buf (Elt Ideal) ((c.tc : Thread Cert.NormInIdeal.nD Cert.NormInIdeal.τ).loc Cert.NormInIdeal.main_v4_3)),
      θ_run (Cert.NormInIdeal.defs (F := Ideal)) (onTc (τ := Cert.NormInIdeal.τ) (Cert.NormInIdeal.main (F := Ideal))) ⟨m, fun _ => 0, g⟩ (fun r => ∀ c : Dev Cert.NormInIdeal.nD,
          r.2.mem ((c.tc : Thread Cert.NormInIdeal.nD Cert.NormInIdeal.τ).loc Cert.NormInIdeal.main_v4_0) = v0 c
          ∧ r.2.mem ((c.tc : Thread Cert.NormInIdeal.nD Cert.NormInIdeal.τ).loc Cert.NormInIdeal.main_v4_1) = v1 c
          ∧ r.2.mem ((c.tc : Thread Cert.NormInIdeal.nD Cert.NormInIdeal.τ).loc Cert.NormInIdeal.main_v4_2) = v2 c
          ∧ r.2.mem ((c.tc : Thread Cert.NormInIdeal.nD Cert.NormInIdeal.τ).loc Cert.NormInIdeal.main_v4_3) = v3 c
          ∧ r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
          ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1)
          ∧ r.2.mem ((c.tc : Thread Cert.NormInIdeal.nD Cert.NormInIdeal.τ).loc Cert.NormInIdeal.main_arg2) = m ((c.tc : Thread Cert.NormInIdeal.nD Cert.NormInIdeal.τ).loc Cert.NormInIdeal.main_arg2)
          ∧ r.2.mem ((c.tc : Thread Cert.NormInIdeal.nD Cert.NormInIdeal.τ).loc Cert.NormInIdeal.main_arg3) = m ((c.tc : Thread Cert.NormInIdeal.nD Cert.NormInIdeal.τ).loc Cert.NormInIdeal.main_arg3))
      ∧ θ_run (Cert.NormInReferenceIdeal.defs (F := Ideal)) (onTc (τ := Cert.NormInReferenceIdeal.τ) (Cert.NormInReferenceIdeal.main (F := Ideal))) ⟨m', fun _ => 0, g'⟩ (fun r => ∀ c : Dev Cert.NormInReferenceIdeal.nD,
          r.2.mem ((c.tc : Thread Cert.NormInReferenceIdeal.nD Cert.NormInReferenceIdeal.τ).loc Cert.NormInReferenceIdeal.main_v29) = v0 c
          ∧ r.2.mem ((c.tc : Thread Cert.NormInReferenceIdeal.nD Cert.NormInReferenceIdeal.τ).loc Cert.NormInReferenceIdeal.main_v34) = v1 c
          ∧ r.2.mem ((c.tc : Thread Cert.NormInReferenceIdeal.nD Cert.NormInReferenceIdeal.τ).loc Cert.NormInReferenceIdeal.main_v36) = v2 c
          ∧ r.2.mem ((c.tc : Thread Cert.NormInReferenceIdeal.nD Cert.NormInReferenceIdeal.τ).loc Cert.NormInReferenceIdeal.main_v33) = v3 c
          ∧ r.2.mem ((c.tc : Thread Cert.NormInReferenceIdeal.nD Cert.NormInReferenceIdeal.τ).loc Cert.NormInReferenceIdeal.main_arg0) = m' ((c.tc : Thread Cert.NormInReferenceIdeal.nD Cert.NormInReferenceIdeal.τ).loc Cert.NormInReferenceIdeal.main_arg0)
          ∧ r.2.mem ((c.tc : Thread Cert.NormInReferenceIdeal.nD Cert.NormInReferenceIdeal.τ).loc Cert.NormInReferenceIdeal.main_arg1) = m' ((c.tc : Thread Cert.NormInReferenceIdeal.nD Cert.NormInReferenceIdeal.τ).loc Cert.NormInReferenceIdeal.main_arg1)
          ∧ r.2.mem ((c.tc : Thread Cert.NormInReferenceIdeal.nD Cert.NormInReferenceIdeal.τ).loc Cert.NormInReferenceIdeal.main_arg2) = m' ((c.tc : Thread Cert.NormInReferenceIdeal.nD Cert.NormInReferenceIdeal.τ).loc Cert.NormInReferenceIdeal.main_arg2)
          ∧ r.2.mem ((c.tc : Thread Cert.NormInReferenceIdeal.nD Cert.NormInReferenceIdeal.τ).loc Cert.NormInReferenceIdeal.main_arg3) = m' ((c.tc : Thread Cert.NormInReferenceIdeal.nD Cert.NormInReferenceIdeal.τ).loc Cert.NormInReferenceIdeal.main_arg3))

def preserves_Qkv_QkvIdeal : Prop :=
  True

def algebraic_QkvIdeal_QkvReferenceIdeal [hQkvIdeal : Cert.QkvIdeal.Facts] [hQkvReferenceIdeal : Cert.QkvReferenceIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvIdeal m →
    (∀ c : Dev Cert.QkvIdeal.nD,
      m' ((c.tc : Thread Cert.QkvReferenceIdeal.nD Cert.QkvReferenceIdeal.τ).loc Cert.QkvReferenceIdeal.main_arg0) = m ((c.tc : Thread Cert.QkvIdeal.nD Cert.QkvIdeal.τ).loc Cert.QkvIdeal.main_arg0)
      ∧ m' ((c.tc : Thread Cert.QkvReferenceIdeal.nD Cert.QkvReferenceIdeal.τ).loc Cert.QkvReferenceIdeal.main_arg1) = m ((c.tc : Thread Cert.QkvIdeal.nD Cert.QkvIdeal.τ).loc Cert.QkvIdeal.main_arg1)
      ∧ m' ((c.tc : Thread Cert.QkvReferenceIdeal.nD Cert.QkvReferenceIdeal.τ).loc Cert.QkvReferenceIdeal.main_arg2) = m ((c.tc : Thread Cert.QkvIdeal.nD Cert.QkvIdeal.τ).loc Cert.QkvIdeal.main_arg2)
      ∧ m' ((c.tc : Thread Cert.QkvReferenceIdeal.nD Cert.QkvReferenceIdeal.τ).loc Cert.QkvReferenceIdeal.main_arg3) = m ((c.tc : Thread Cert.QkvIdeal.nD Cert.QkvIdeal.τ).loc Cert.QkvIdeal.main_arg3)
      ∧ m' ((c.tc : Thread Cert.QkvReferenceIdeal.nD Cert.QkvReferenceIdeal.τ).loc Cert.QkvReferenceIdeal.main_arg4) = m ((c.tc : Thread Cert.QkvIdeal.nD Cert.QkvIdeal.τ).loc Cert.QkvIdeal.main_arg4)
      ∧ m' ((c.tc : Thread Cert.QkvReferenceIdeal.nD Cert.QkvReferenceIdeal.τ).loc Cert.QkvReferenceIdeal.main_arg5) = m ((c.tc : Thread Cert.QkvIdeal.nD Cert.QkvIdeal.τ).loc Cert.QkvIdeal.main_arg5)) →
    ∃ (v0 : (c : Dev Cert.QkvIdeal.nD) → Buf (Elt Ideal) ((c.tc : Thread Cert.QkvIdeal.nD Cert.QkvIdeal.τ).loc Cert.QkvIdeal.main_v2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v2) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v48) = v0 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1)
          ∧ r.2.mem ((c.tc : Thread Cert.QkvReferenceIdeal.nD Cert.QkvReferenceIdeal.τ).loc Cert.QkvReferenceIdeal.main_arg2) = m' ((c.tc : Thread Cert.QkvReferenceIdeal.nD Cert.QkvReferenceIdeal.τ).loc Cert.QkvReferenceIdeal.main_arg2)
          ∧ r.2.mem ((c.tc : Thread Cert.QkvReferenceIdeal.nD Cert.QkvReferenceIdeal.τ).loc Cert.QkvReferenceIdeal.main_arg3) = m' ((c.tc : Thread Cert.QkvReferenceIdeal.nD Cert.QkvReferenceIdeal.τ).loc Cert.QkvReferenceIdeal.main_arg3)
          ∧ r.2.mem ((c.tc : Thread Cert.QkvReferenceIdeal.nD Cert.QkvReferenceIdeal.τ).loc Cert.QkvReferenceIdeal.main_arg4) = m' ((c.tc : Thread Cert.QkvReferenceIdeal.nD Cert.QkvReferenceIdeal.τ).loc Cert.QkvReferenceIdeal.main_arg4)
          ∧ r.2.mem ((c.tc : Thread Cert.QkvReferenceIdeal.nD Cert.QkvReferenceIdeal.τ).loc Cert.QkvReferenceIdeal.main_arg5) = m' ((c.tc : Thread Cert.QkvReferenceIdeal.nD Cert.QkvReferenceIdeal.τ).loc Cert.QkvReferenceIdeal.main_arg5))

def preserves_Oproj_OprojIdeal : Prop :=
  True

def algebraic_OprojIdeal_OprojReferenceIdeal [hOprojIdeal : Cert.OprojIdeal.Facts] [hOprojReferenceIdeal : Cert.OprojReferenceIdeal.Facts] : Prop :=
  ∀ (m : (ℓ : Loc Cert.OprojIdeal.nD Cert.OprojIdeal.τ Cert.OprojIdeal.sig) → Buf (Elt Ideal) ℓ) (g : Dev Cert.OprojIdeal.nD → PrngReg)
    (m' : (ℓ : Loc Cert.OprojReferenceIdeal.nD Cert.OprojReferenceIdeal.τ Cert.OprojReferenceIdeal.sig) → Buf (Elt Ideal) ℓ) (g' : Dev Cert.OprojReferenceIdeal.nD → PrngReg), Pre_OprojIdeal m →
    (∀ c : Dev Cert.OprojIdeal.nD,
      m' ((c.tc : Thread Cert.OprojReferenceIdeal.nD Cert.OprojReferenceIdeal.τ).loc Cert.OprojReferenceIdeal.main_arg0) = m ((c.tc : Thread Cert.OprojIdeal.nD Cert.OprojIdeal.τ).loc Cert.OprojIdeal.main_arg0)
      ∧ m' ((c.tc : Thread Cert.OprojReferenceIdeal.nD Cert.OprojReferenceIdeal.τ).loc Cert.OprojReferenceIdeal.main_arg1) = m ((c.tc : Thread Cert.OprojIdeal.nD Cert.OprojIdeal.τ).loc Cert.OprojIdeal.main_arg1)
      ∧ m' ((c.tc : Thread Cert.OprojReferenceIdeal.nD Cert.OprojReferenceIdeal.τ).loc Cert.OprojReferenceIdeal.main_arg2) = m ((c.tc : Thread Cert.OprojIdeal.nD Cert.OprojIdeal.τ).loc Cert.OprojIdeal.main_arg2)
      ∧ m' ((c.tc : Thread Cert.OprojReferenceIdeal.nD Cert.OprojReferenceIdeal.τ).loc Cert.OprojReferenceIdeal.main_arg3) = m ((c.tc : Thread Cert.OprojIdeal.nD Cert.OprojIdeal.τ).loc Cert.OprojIdeal.main_arg3)) →
    ∃ (v0 : (c : Dev Cert.OprojIdeal.nD) → Buf (Elt Ideal) ((c.tc : Thread Cert.OprojIdeal.nD Cert.OprojIdeal.τ).loc Cert.OprojIdeal.main_v2)),
      θ_run (Cert.OprojIdeal.defs (F := Ideal)) (onTc (τ := Cert.OprojIdeal.τ) (Cert.OprojIdeal.main (F := Ideal))) ⟨m, fun _ => 0, g⟩ (fun r => ∀ c : Dev Cert.OprojIdeal.nD,
          r.2.mem ((c.tc : Thread Cert.OprojIdeal.nD Cert.OprojIdeal.τ).loc Cert.OprojIdeal.main_v2) = v0 c
          ∧ r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
          ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
          ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
          ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3))
      ∧ θ_run (Cert.OprojReferenceIdeal.defs (F := Ideal)) (onTc (τ := Cert.OprojReferenceIdeal.τ) (Cert.OprojReferenceIdeal.main (F := Ideal))) ⟨m', fun _ => 0, g'⟩ (fun r => ∀ c : Dev Cert.OprojReferenceIdeal.nD,
          r.2.mem ((c.tc : Thread Cert.OprojReferenceIdeal.nD Cert.OprojReferenceIdeal.τ).loc Cert.OprojReferenceIdeal.main_v42) = v0 c
          ∧ r.2.mem ((c.tc : Thread Cert.OprojReferenceIdeal.nD Cert.OprojReferenceIdeal.τ).loc Cert.OprojReferenceIdeal.main_arg0) = m' ((c.tc : Thread Cert.OprojReferenceIdeal.nD Cert.OprojReferenceIdeal.τ).loc Cert.OprojReferenceIdeal.main_arg0)
          ∧ r.2.mem ((c.tc : Thread Cert.OprojReferenceIdeal.nD Cert.OprojReferenceIdeal.τ).loc Cert.OprojReferenceIdeal.main_arg1) = m' ((c.tc : Thread Cert.OprojReferenceIdeal.nD Cert.OprojReferenceIdeal.τ).loc Cert.OprojReferenceIdeal.main_arg1)
          ∧ r.2.mem ((c.tc : Thread Cert.OprojReferenceIdeal.nD Cert.OprojReferenceIdeal.τ).loc Cert.OprojReferenceIdeal.main_arg2) = m' ((c.tc : Thread Cert.OprojReferenceIdeal.nD Cert.OprojReferenceIdeal.τ).loc Cert.OprojReferenceIdeal.main_arg2)
          ∧ r.2.mem ((c.tc : Thread Cert.OprojReferenceIdeal.nD Cert.OprojReferenceIdeal.τ).loc Cert.OprojReferenceIdeal.main_arg3) = m' ((c.tc : Thread Cert.OprojReferenceIdeal.nD Cert.OprojReferenceIdeal.τ).loc Cert.OprojReferenceIdeal.main_arg3))

def preserves_NormFf_NormFfIdeal : Prop :=
  True

def algebraic_NormFfIdeal_NormFfReferenceIdeal [hNormFfIdeal : Cert.NormFfIdeal.Facts] [hNormFfReferenceIdeal : Cert.NormFfReferenceIdeal.Facts] : Prop :=
  ∀ (m : (ℓ : Loc Cert.NormFfIdeal.nD Cert.NormFfIdeal.τ Cert.NormFfIdeal.sig) → Buf (Elt Ideal) ℓ) (g : Dev Cert.NormFfIdeal.nD → PrngReg)
    (m' : (ℓ : Loc Cert.NormFfReferenceIdeal.nD Cert.NormFfReferenceIdeal.τ Cert.NormFfReferenceIdeal.sig) → Buf (Elt Ideal) ℓ) (g' : Dev Cert.NormFfReferenceIdeal.nD → PrngReg), Pre_NormFfIdeal m →
    (∀ c : Dev Cert.NormFfIdeal.nD,
      m' ((c.tc : Thread Cert.NormFfReferenceIdeal.nD Cert.NormFfReferenceIdeal.τ).loc Cert.NormFfReferenceIdeal.main_arg0) = m ((c.tc : Thread Cert.NormFfIdeal.nD Cert.NormFfIdeal.τ).loc Cert.NormFfIdeal.main_arg0)
      ∧ m' ((c.tc : Thread Cert.NormFfReferenceIdeal.nD Cert.NormFfReferenceIdeal.τ).loc Cert.NormFfReferenceIdeal.main_arg1) = m ((c.tc : Thread Cert.NormFfIdeal.nD Cert.NormFfIdeal.τ).loc Cert.NormFfIdeal.main_arg1)
      ∧ m' ((c.tc : Thread Cert.NormFfReferenceIdeal.nD Cert.NormFfReferenceIdeal.τ).loc Cert.NormFfReferenceIdeal.main_arg2) = m ((c.tc : Thread Cert.NormFfIdeal.nD Cert.NormFfIdeal.τ).loc Cert.NormFfIdeal.main_arg2)) →
    ∃ (v0 : (c : Dev Cert.NormFfIdeal.nD) → Buf (Elt Ideal) ((c.tc : Thread Cert.NormFfIdeal.nD Cert.NormFfIdeal.τ).loc Cert.NormFfIdeal.main_v1_0)) (v1 : (c : Dev Cert.NormFfIdeal.nD) → Buf (Elt Ideal) ((c.tc : Thread Cert.NormFfIdeal.nD Cert.NormFfIdeal.τ).loc Cert.NormFfIdeal.main_v1_1)) (v2 : (c : Dev Cert.NormFfIdeal.nD) → Buf (Elt Ideal) ((c.tc : Thread Cert.NormFfIdeal.nD Cert.NormFfIdeal.τ).loc Cert.NormFfIdeal.main_v1_2)) (v3 : (c : Dev Cert.NormFfIdeal.nD) → Buf (Elt Ideal) ((c.tc : Thread Cert.NormFfIdeal.nD Cert.NormFfIdeal.τ).loc Cert.NormFfIdeal.main_v1_3)),
      θ_run (Cert.NormFfIdeal.defs (F := Ideal)) (onTc (τ := Cert.NormFfIdeal.τ) (Cert.NormFfIdeal.main (F := Ideal))) ⟨m, fun _ => 0, g⟩ (fun r => ∀ c : Dev Cert.NormFfIdeal.nD,
          r.2.mem ((c.tc : Thread Cert.NormFfIdeal.nD Cert.NormFfIdeal.τ).loc Cert.NormFfIdeal.main_v1_0) = v0 c
          ∧ r.2.mem ((c.tc : Thread Cert.NormFfIdeal.nD Cert.NormFfIdeal.τ).loc Cert.NormFfIdeal.main_v1_1) = v1 c
          ∧ r.2.mem ((c.tc : Thread Cert.NormFfIdeal.nD Cert.NormFfIdeal.τ).loc Cert.NormFfIdeal.main_v1_2) = v2 c
          ∧ r.2.mem ((c.tc : Thread Cert.NormFfIdeal.nD Cert.NormFfIdeal.τ).loc Cert.NormFfIdeal.main_v1_3) = v3 c
          ∧ r.2.mem ((c.tc : Thread Cert.NormFfIdeal.nD Cert.NormFfIdeal.τ).loc Cert.NormFfIdeal.main_arg0) = m ((c.tc : Thread Cert.NormFfIdeal.nD Cert.NormFfIdeal.τ).loc Cert.NormFfIdeal.main_arg0)
          ∧ r.2.mem ((c.tc : Thread Cert.NormFfIdeal.nD Cert.NormFfIdeal.τ).loc Cert.NormFfIdeal.main_arg1) = m ((c.tc : Thread Cert.NormFfIdeal.nD Cert.NormFfIdeal.τ).loc Cert.NormFfIdeal.main_arg1)
          ∧ r.2.mem ((c.tc : Thread Cert.NormFfIdeal.nD Cert.NormFfIdeal.τ).loc Cert.NormFfIdeal.main_arg2) = m ((c.tc : Thread Cert.NormFfIdeal.nD Cert.NormFfIdeal.τ).loc Cert.NormFfIdeal.main_arg2))
      ∧ θ_run (Cert.NormFfReferenceIdeal.defs (F := Ideal)) (onTc (τ := Cert.NormFfReferenceIdeal.τ) (Cert.NormFfReferenceIdeal.main (F := Ideal))) ⟨m', fun _ => 0, g'⟩ (fun r => ∀ c : Dev Cert.NormFfReferenceIdeal.nD,
          r.2.mem ((c.tc : Thread Cert.NormFfReferenceIdeal.nD Cert.NormFfReferenceIdeal.τ).loc Cert.NormFfReferenceIdeal.main_v28) = v0 c
          ∧ r.2.mem ((c.tc : Thread Cert.NormFfReferenceIdeal.nD Cert.NormFfReferenceIdeal.τ).loc Cert.NormFfReferenceIdeal.main_v32) = v1 c
          ∧ r.2.mem ((c.tc : Thread Cert.NormFfReferenceIdeal.nD Cert.NormFfReferenceIdeal.τ).loc Cert.NormFfReferenceIdeal.main_v34) = v2 c
          ∧ r.2.mem ((c.tc : Thread Cert.NormFfReferenceIdeal.nD Cert.NormFfReferenceIdeal.τ).loc Cert.NormFfReferenceIdeal.main_v31) = v3 c
          ∧ r.2.mem ((c.tc : Thread Cert.NormFfReferenceIdeal.nD Cert.NormFfReferenceIdeal.τ).loc Cert.NormFfReferenceIdeal.main_arg0) = m' ((c.tc : Thread Cert.NormFfReferenceIdeal.nD Cert.NormFfReferenceIdeal.τ).loc Cert.NormFfReferenceIdeal.main_arg0)
          ∧ r.2.mem ((c.tc : Thread Cert.NormFfReferenceIdeal.nD Cert.NormFfReferenceIdeal.τ).loc Cert.NormFfReferenceIdeal.main_arg1) = m' ((c.tc : Thread Cert.NormFfReferenceIdeal.nD Cert.NormFfReferenceIdeal.τ).loc Cert.NormFfReferenceIdeal.main_arg1)
          ∧ r.2.mem ((c.tc : Thread Cert.NormFfReferenceIdeal.nD Cert.NormFfReferenceIdeal.τ).loc Cert.NormFfReferenceIdeal.main_arg2) = m' ((c.tc : Thread Cert.NormFfReferenceIdeal.nD Cert.NormFfReferenceIdeal.τ).loc Cert.NormFfReferenceIdeal.main_arg2))

def preserves_GateUp_GateUpIdeal : Prop :=
  True

def algebraic_GateUpIdeal_GateUpReferenceIdeal [hGateUpIdeal : Cert.GateUpIdeal.Facts] [hGateUpReferenceIdeal : Cert.GateUpReferenceIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpReferenceIdeal.nD Cert.GateUpReferenceIdeal.τ Cert.GateUpReferenceIdeal.sig) → Buf (Elt Ideal) ℓ) (g' : Dev Cert.GateUpReferenceIdeal.nD → PrngReg), Pre_GateUpIdeal m →
    (∀ c : Dev Cert.GateUpIdeal.nD,
      m' ((c.tc : Thread Cert.GateUpReferenceIdeal.nD Cert.GateUpReferenceIdeal.τ).loc Cert.GateUpReferenceIdeal.main_arg0) = m ((c.tc : Thread Cert.GateUpIdeal.nD Cert.GateUpIdeal.τ).loc Cert.GateUpIdeal.main_arg0)
      ∧ m' ((c.tc : Thread Cert.GateUpReferenceIdeal.nD Cert.GateUpReferenceIdeal.τ).loc Cert.GateUpReferenceIdeal.main_arg1) = m ((c.tc : Thread Cert.GateUpIdeal.nD Cert.GateUpIdeal.τ).loc Cert.GateUpIdeal.main_arg1)
      ∧ m' ((c.tc : Thread Cert.GateUpReferenceIdeal.nD Cert.GateUpReferenceIdeal.τ).loc Cert.GateUpReferenceIdeal.main_arg2) = m ((c.tc : Thread Cert.GateUpIdeal.nD Cert.GateUpIdeal.τ).loc Cert.GateUpIdeal.main_arg2)
      ∧ m' ((c.tc : Thread Cert.GateUpReferenceIdeal.nD Cert.GateUpReferenceIdeal.τ).loc Cert.GateUpReferenceIdeal.main_arg3) = m ((c.tc : Thread Cert.GateUpIdeal.nD Cert.GateUpIdeal.τ).loc Cert.GateUpIdeal.main_arg3)
      ∧ m' ((c.tc : Thread Cert.GateUpReferenceIdeal.nD Cert.GateUpReferenceIdeal.τ).loc Cert.GateUpReferenceIdeal.main_arg4) = m ((c.tc : Thread Cert.GateUpIdeal.nD Cert.GateUpIdeal.τ).loc Cert.GateUpIdeal.main_arg4)
      ∧ m' ((c.tc : Thread Cert.GateUpReferenceIdeal.nD Cert.GateUpReferenceIdeal.τ).loc Cert.GateUpReferenceIdeal.main_arg5) = m ((c.tc : Thread Cert.GateUpIdeal.nD Cert.GateUpIdeal.τ).loc Cert.GateUpIdeal.main_arg5)) →
    ∃ (v0 : (c : Dev Cert.GateUpIdeal.nD) → Buf (Elt Ideal) ((c.tc : Thread Cert.GateUpIdeal.nD Cert.GateUpIdeal.τ).loc Cert.GateUpIdeal.main_v2_0)) (v1 : (c : Dev Cert.GateUpIdeal.nD) → Buf (Elt Ideal) ((c.tc : Thread Cert.GateUpIdeal.nD Cert.GateUpIdeal.τ).loc Cert.GateUpIdeal.main_v2_1)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v2_0) = v0 c
          ∧ r.2.mem ((c.tc : Thread Cert.GateUpIdeal.nD Cert.GateUpIdeal.τ).loc Cert.GateUpIdeal.main_v2_1) = v1 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
          ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
          ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5))
      ∧ θ_run (Cert.GateUpReferenceIdeal.defs (F := Ideal)) (onTc (τ := Cert.GateUpReferenceIdeal.τ) (Cert.GateUpReferenceIdeal.main (F := Ideal))) ⟨m', fun _ => 0, g'⟩ (fun r => ∀ c : Dev Cert.GateUpReferenceIdeal.nD,
          r.2.mem ((c.tc : Thread Cert.GateUpReferenceIdeal.nD Cert.GateUpReferenceIdeal.τ).loc Cert.GateUpReferenceIdeal.main_v54) = v0 c
          ∧ r.2.mem ((c.tc : Thread Cert.GateUpReferenceIdeal.nD Cert.GateUpReferenceIdeal.τ).loc Cert.GateUpReferenceIdeal.main_v57) = v1 c
          ∧ r.2.mem ((c.tc : Thread Cert.GateUpReferenceIdeal.nD Cert.GateUpReferenceIdeal.τ).loc Cert.GateUpReferenceIdeal.main_arg0) = m' ((c.tc : Thread Cert.GateUpReferenceIdeal.nD Cert.GateUpReferenceIdeal.τ).loc Cert.GateUpReferenceIdeal.main_arg0)
          ∧ r.2.mem ((c.tc : Thread Cert.GateUpReferenceIdeal.nD Cert.GateUpReferenceIdeal.τ).loc Cert.GateUpReferenceIdeal.main_arg1) = m' ((c.tc : Thread Cert.GateUpReferenceIdeal.nD Cert.GateUpReferenceIdeal.τ).loc Cert.GateUpReferenceIdeal.main_arg1)
          ∧ r.2.mem ((c.tc : Thread Cert.GateUpReferenceIdeal.nD Cert.GateUpReferenceIdeal.τ).loc Cert.GateUpReferenceIdeal.main_arg2) = m' ((c.tc : Thread Cert.GateUpReferenceIdeal.nD Cert.GateUpReferenceIdeal.τ).loc Cert.GateUpReferenceIdeal.main_arg2)
          ∧ r.2.mem ((c.tc : Thread Cert.GateUpReferenceIdeal.nD Cert.GateUpReferenceIdeal.τ).loc Cert.GateUpReferenceIdeal.main_arg3) = m' ((c.tc : Thread Cert.GateUpReferenceIdeal.nD Cert.GateUpReferenceIdeal.τ).loc Cert.GateUpReferenceIdeal.main_arg3)
          ∧ r.2.mem ((c.tc : Thread Cert.GateUpReferenceIdeal.nD Cert.GateUpReferenceIdeal.τ).loc Cert.GateUpReferenceIdeal.main_arg4) = m' ((c.tc : Thread Cert.GateUpReferenceIdeal.nD Cert.GateUpReferenceIdeal.τ).loc Cert.GateUpReferenceIdeal.main_arg4)
          ∧ r.2.mem ((c.tc : Thread Cert.GateUpReferenceIdeal.nD Cert.GateUpReferenceIdeal.τ).loc Cert.GateUpReferenceIdeal.main_arg5) = m' ((c.tc : Thread Cert.GateUpReferenceIdeal.nD Cert.GateUpReferenceIdeal.τ).loc Cert.GateUpReferenceIdeal.main_arg5))

def Claim : Prop :=
  ∃ (hNormIn : Cert.NormIn.Facts) (hNormInIdeal : Cert.NormInIdeal.Facts) (hNormInReferenceIdeal : Cert.NormInReferenceIdeal.Facts) (hQkv : Cert.Qkv.Facts) (hQkvIdeal : Cert.QkvIdeal.Facts) (hQkvReferenceIdeal : Cert.QkvReferenceIdeal.Facts) (hOproj : Cert.Oproj.Facts) (hOprojIdeal : Cert.OprojIdeal.Facts) (hOprojReferenceIdeal : Cert.OprojReferenceIdeal.Facts) (hNormFf : Cert.NormFf.Facts) (hNormFfIdeal : Cert.NormFfIdeal.Facts) (hNormFfReferenceIdeal : Cert.NormFfReferenceIdeal.Facts) (hGateUp : Cert.GateUp.Facts) (hGateUpIdeal : Cert.GateUpIdeal.Facts) (hGateUpReferenceIdeal : Cert.GateUpReferenceIdeal.Facts),
    quiescent_NormIn (hNormIn := hNormIn)
    ∧ quiescent_NormInIdeal (hNormInIdeal := hNormInIdeal)
    ∧ quiescent_NormInReferenceIdeal (hNormInReferenceIdeal := hNormInReferenceIdeal)
    ∧ quiescent_Qkv (hQkv := hQkv)
    ∧ quiescent_QkvIdeal (hQkvIdeal := hQkvIdeal)
    ∧ quiescent_QkvReferenceIdeal (hQkvReferenceIdeal := hQkvReferenceIdeal)
    ∧ quiescent_Oproj (hOproj := hOproj)
    ∧ quiescent_OprojIdeal (hOprojIdeal := hOprojIdeal)
    ∧ quiescent_OprojReferenceIdeal (hOprojReferenceIdeal := hOprojReferenceIdeal)
    ∧ quiescent_NormFf (hNormFf := hNormFf)
    ∧ quiescent_NormFfIdeal (hNormFfIdeal := hNormFfIdeal)
    ∧ quiescent_NormFfReferenceIdeal (hNormFfReferenceIdeal := hNormFfReferenceIdeal)
    ∧ quiescent_GateUp (hGateUp := hGateUp)
    ∧ quiescent_GateUpIdeal (hGateUpIdeal := hGateUpIdeal)
    ∧ quiescent_GateUpReferenceIdeal (hGateUpReferenceIdeal := hGateUpReferenceIdeal)
    ∧ preserves_NormIn_NormInIdeal
    ∧ algebraic_NormInIdeal_NormInReferenceIdeal (hNormInIdeal := hNormInIdeal) (hNormInReferenceIdeal := hNormInReferenceIdeal)
    ∧ preserves_Qkv_QkvIdeal
    ∧ algebraic_QkvIdeal_QkvReferenceIdeal (hQkvIdeal := hQkvIdeal) (hQkvReferenceIdeal := hQkvReferenceIdeal)
    ∧ preserves_Oproj_OprojIdeal
    ∧ algebraic_OprojIdeal_OprojReferenceIdeal (hOprojIdeal := hOprojIdeal) (hOprojReferenceIdeal := hOprojReferenceIdeal)
    ∧ preserves_NormFf_NormFfIdeal
    ∧ algebraic_NormFfIdeal_NormFfReferenceIdeal (hNormFfIdeal := hNormFfIdeal) (hNormFfReferenceIdeal := hNormFfReferenceIdeal)
    ∧ preserves_GateUp_GateUpIdeal
    ∧ algebraic_GateUpIdeal_GateUpReferenceIdeal (hGateUpIdeal := hGateUpIdeal) (hGateUpReferenceIdeal := hGateUpReferenceIdeal)
-- ==== NormIn.lean ====
abbrev S12x256x3584 : Shape := ⟨3, ![12, 256, 3584]⟩
abbrev S7168 : Shape := ⟨1, ![7168]⟩
abbrev S7168x3x128 : Shape := ⟨3, ![7168, 3, 128]⟩
abbrev S3x7168x128 : Shape := ⟨3, ![3, 7168, 128]⟩
abbrev S3072x3584 : Shape := ⟨2, ![3072, 3584]⟩
abbrev S1x7168 : Shape := ⟨2, ![1, 7168]⟩
abbrev S3072x7168 : Shape := ⟨2, ![3072, 7168]⟩
abbrev S12x1x256 : Shape := ⟨3, ![12, 1, 256]⟩
abbrev S3072x128 : Shape := ⟨2, ![3072, 128]⟩
abbrev S3x3072x128 : Shape := ⟨3, ![3, 3072, 128]⟩
abbrev S256x3584 : Shape := ⟨2, ![256, 3584]⟩
abbrev S256x7168 : Shape := ⟨2, ![256, 7168]⟩
abbrev S1x1x256 : Shape := ⟨3, ![1, 1, 256]⟩
abbrev S256x128 : Shape := ⟨2, ![256, 128]⟩
abbrev S3x256x128 : Shape := ⟨3, ![3, 256, 128]⟩
abbrev S256 : Shape := ⟨1, ![256]⟩
abbrev S256x1 : Shape := ⟨2, ![256, 1]⟩
abbrev S1x3584 : Shape := ⟨2, ![1, 3584]⟩
abbrev S128x256 : Shape := ⟨2, ![128, 256]⟩
abbrev S1x256 : Shape := ⟨2, ![1, 256]⟩
abbrev S1x7168x128 : Shape := ⟨3, ![1, 7168, 128]⟩
abbrev S7168x128 : Shape := ⟨2, ![7168, 128]⟩
abbrev S7168x384 : Shape := ⟨2, ![7168, 384]⟩
abbrev S3584x384 : Shape := ⟨2, ![3584, 384]⟩
abbrev S256x384 : Shape := ⟨2, ![256, 384]⟩
abbrev S1x256x128 : Shape := ⟨3, ![1, 256, 128]⟩

abbrev nBuf : Space → Nat
  | .hbm => 12
  | .vmem => 14
  | .smem => 0
  | _ => 0

abbrev bufTy : (tb : Table) → Fin (tcTables nBuf tb) → BufTy
  | .hbm, ⟨0, _⟩ => ⟨S12x256x3584, .bf16⟩
  | .hbm, ⟨1, _⟩ => ⟨S12x256x3584, .bf16⟩
  | .hbm, ⟨2, _⟩ => ⟨S7168, .f32⟩
  | .hbm, ⟨3, _⟩ => ⟨S7168x3x128, .bf16⟩
  | .hbm, ⟨4, _⟩ => ⟨S3x7168x128, .bf16⟩
  | .hbm, ⟨5, _⟩ => ⟨S3072x3584, .bf16⟩
  | .hbm, ⟨6, _⟩ => ⟨S3072x3584, .bf16⟩
  | .hbm, ⟨7, _⟩ => ⟨S1x7168, .f32⟩
  | .hbm, ⟨8, _⟩ => ⟨S3072x7168, .i8⟩
  | .hbm, ⟨9, _⟩ => ⟨S12x1x256, .f32⟩
  | .hbm, ⟨10, _⟩ => ⟨S3072x128, .f32⟩
  | .hbm, ⟨11, _⟩ => ⟨S3x3072x128, .bf16⟩
  | .local _ .vmem, ⟨0, _⟩ => ⟨S256x3584, .bf16⟩
  | .local _ .vmem, ⟨1, _⟩ => ⟨S256x3584, .bf16⟩
  | .local _ .vmem, ⟨2, _⟩ => ⟨S256x3584, .bf16⟩
  | .local _ .vmem, ⟨3, _⟩ => ⟨S256x3584, .bf16⟩
  | .local _ .vmem, ⟨4, _⟩ => ⟨S1x7168, .f32⟩
  | .local _ .vmem, ⟨5, _⟩ => ⟨S3x7168x128, .bf16⟩
  | .local _ .vmem, ⟨6, _⟩ => ⟨S256x7168, .i8⟩
  | .local _ .vmem, ⟨7, _⟩ => ⟨S256x7168, .i8⟩
  | .local _ .vmem, ⟨8, _⟩ => ⟨S1x1x256, .f32⟩
  | .local _ .vmem, ⟨9, _⟩ => ⟨S1x1x256, .f32⟩
  | .local _ .vmem, ⟨10, _⟩ => ⟨S256x128, .f32⟩
  | .local _ .vmem, ⟨11, _⟩ => ⟨S256x128, .f32⟩
  | .local _ .vmem, ⟨12, _⟩ => ⟨S3x256x128, .bf16⟩
  | .local _ .vmem, ⟨13, _⟩ => ⟨S3x256x128, .bf16⟩
  | _, _ => ⟨S12x256x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x7168 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x7168x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x7168 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S3x256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== NormInReferenceIdeal.lean ====
abbrev S12x256x3584 : Shape := ⟨3, ![12, 256, 3584]⟩
abbrev S7168 : Shape := ⟨1, ![7168]⟩
abbrev S7168x3x128 : Shape := ⟨3, ![7168, 3, 128]⟩
abbrev S12x256x7168 : Shape := ⟨3, ![12, 256, 7168]⟩
abbrev S3072x7168 : Shape := ⟨2, ![3072, 7168]⟩
abbrev S_ : Shape := ⟨0, ![]⟩
abbrev S3072 : Shape := ⟨1, ![3072]⟩
abbrev S3072x1 : Shape := ⟨2, ![3072, 1]⟩
abbrev S1x7168 : Shape := ⟨2, ![1, 7168]⟩
abbrev S3x128x3072 : Shape := ⟨3, ![3, 128, 3072]⟩
abbrev S3x3072x128 : Shape := ⟨3, ![3, 3072, 128]⟩
abbrev S12x1x256 : Shape := ⟨3, ![12, 1, 256]⟩
abbrev S3072x128 : Shape := ⟨2, ![3072, 128]⟩

abbrev nBuf : Space → Nat
  | .hbm => 57
  | .vmem => 0
  | .smem => 0
  | _ => 0

abbrev bufTy : (tb : Table) → Fin (tcTables nBuf tb) → BufTy
  | .hbm, ⟨0, _⟩ => ⟨S12x256x3584, .bf16⟩
  | .hbm, ⟨1, _⟩ => ⟨S12x256x3584, .bf16⟩
  | .hbm, ⟨2, _⟩ => ⟨S7168, .f32⟩
  | .hbm, ⟨3, _⟩ => ⟨S7168x3x128, .bf16⟩
  | .hbm, ⟨4, _⟩ => ⟨S12x256x7168, .bf16⟩
  | .hbm, ⟨5, _⟩ => ⟨S12x256x7168, .f32⟩
  | .hbm, ⟨6, _⟩ => ⟨S3072x7168, .f32⟩
  | .hbm, ⟨7, _⟩ => ⟨S3072x7168, .f32⟩
  | .hbm, ⟨8, _⟩ => ⟨S_, .f32⟩
  | .hbm, ⟨9, _⟩ => ⟨S3072, .f32⟩
  | .hbm, ⟨10, _⟩ => ⟨S3072x1, .f32⟩
  | .hbm, ⟨11, _⟩ => ⟨S_, .f32⟩
  | .hbm, ⟨12, _⟩ => ⟨S3072x1, .f32⟩
  | .hbm, ⟨13, _⟩ => ⟨S3072x1, .f32⟩
  | .hbm, ⟨14, _⟩ => ⟨S_, .f32⟩
  | .hbm, ⟨15, _⟩ => ⟨S3072x1, .f32⟩
  | .hbm, ⟨16, _⟩ => ⟨S3072x1, .f32⟩
  | .hbm, ⟨17, _⟩ => ⟨S3072x1, .f32⟩
  | .hbm, ⟨18, _⟩ => ⟨S3072x7168, .f32⟩
  | .hbm, ⟨19, _⟩ => ⟨S3072x7168, .f32⟩
  | .hbm, ⟨20, _⟩ => ⟨S1x7168, .f32⟩
  | .hbm, ⟨21, _⟩ => ⟨S3072x7168, .f32⟩
  | .hbm, ⟨22, _⟩ => ⟨S3072x7168, .f32⟩
  | .hbm, ⟨23, _⟩ => ⟨S3072x7168, .f32⟩
  | .hbm, ⟨24, _⟩ => ⟨S_, .f32⟩
  | .hbm, ⟨25, _⟩ => ⟨S3072, .f32⟩
  | .hbm, ⟨26, _⟩ => ⟨S_, .f32⟩
  | .hbm, ⟨27, _⟩ => ⟨S3072, .f32⟩
  | .hbm, ⟨28, _⟩ => ⟨S3072, .i1⟩
  | .hbm, ⟨29, _⟩ => ⟨S_, .f32⟩
  | .hbm, ⟨30, _⟩ => ⟨S3072, .f32⟩
  | .hbm, ⟨31, _⟩ => ⟨S3072, .f32⟩
  | .hbm, ⟨32, _⟩ => ⟨S_, .f32⟩
  | .hbm, ⟨33, _⟩ => ⟨S_, .f32⟩
  | .hbm, ⟨34, _⟩ => ⟨S3072, .f32⟩
  | .hbm, ⟨35, _⟩ => ⟨S3072, .f32⟩
  | .hbm, ⟨36, _⟩ => ⟨S3072x1, .f32⟩
  | .hbm, ⟨37, _⟩ => ⟨S3072x7168, .f32⟩
  | .hbm, ⟨38, _⟩ => ⟨S3072x7168, .f32⟩
  | .hbm, ⟨39, _⟩ => ⟨S3072x7168, .f32⟩
  | .hbm, ⟨40, _⟩ => ⟨S_, .i32⟩
  | .hbm, ⟨41, _⟩ => ⟨S_, .i32⟩
  | .hbm, ⟨42, _⟩ => ⟨S_, .f32⟩
  | .hbm, ⟨43, _⟩ => ⟨S3072x7168, .f32⟩
  | .hbm, ⟨44, _⟩ => ⟨S3072x7168, .f32⟩
  | .hbm, ⟨45, _⟩ => ⟨S_, .f32⟩
  | .hbm, ⟨46, _⟩ => ⟨S3072x7168, .f32⟩
  | .hbm, ⟨47, _⟩ => ⟨S3072x7168, .f32⟩
  | .hbm, ⟨48, _⟩ => ⟨S3072x7168, .i32⟩
  | .hbm, ⟨49, _⟩ => ⟨S3072x7168, .i8⟩
  | .hbm, ⟨50, _⟩ => ⟨S3072x7168, .bf16⟩
  | .hbm, ⟨51, _⟩ => ⟨S3x128x3072, .f32⟩
  | .hbm, ⟨52, _⟩ => ⟨S3x3072x128, .f32⟩
  | .hbm, ⟨53, _⟩ => ⟨S3x3072x128, .bf16⟩
  | .hbm, ⟨54, _⟩ => ⟨S12x1x256, .f32⟩
  | .hbm, ⟨55, _⟩ => ⟨S3072x1, .f32⟩
  | .hbm, ⟨56, _⟩ => ⟨S3072x128, .f32⟩
  | _, _ => ⟨S12x256x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_call0_v0 : Ref sig .tc := ⟨.hbm, 33, rfl⟩
abbrev main_call0_v1 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c : Ref sig .tc := ⟨.hbm, 40, rfl⟩
abbrev main_c_6 : Ref sig .tc := ⟨.hbm, 41, rfl⟩
abbrev main_call2_v0 : Ref sig .tc := ⟨.hbm, 42, rfl⟩
abbrev main_call2_v1 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== Qkv.lean ====
abbrev S3072x7168 : Shape := ⟨2, ![3072, 7168]⟩
abbrev S3072 : Shape := ⟨1, ![3072]⟩
abbrev S3x3072x128 : Shape := ⟨3, ![3, 3072, 128]⟩
abbrev S3584x21504 : Shape := ⟨2, ![3584, 21504]⟩
abbrev S56x21504 : Shape := ⟨2, ![56, 21504]⟩
abbrev S3x128x7168 : Shape := ⟨3, ![3, 128, 7168]⟩
abbrev S3072x1 : Shape := ⟨2, ![3072, 1]⟩
abbrev S3072x128 : Shape := ⟨2, ![3072, 128]⟩
abbrev S12x21504x256 : Shape := ⟨3, ![12, 21504, 256]⟩
abbrev S1x3072x128 : Shape := ⟨3, ![1, 3072, 128]⟩
abbrev S3584x512 : Shape := ⟨2, ![3584, 512]⟩
abbrev S56x512 : Shape := ⟨2, ![56, 512]⟩
abbrev S1x128x512 : Shape := ⟨3, ![1, 128, 512]⟩
abbrev S12x512x256 : Shape := ⟨3, ![12, 512, 256]⟩
abbrev S7168x512 : Shape := ⟨2, ![7168, 512]⟩
abbrev S28x512 : Shape := ⟨2, ![28, 512]⟩
abbrev S896x512 : Shape := ⟨2, ![896, 512]⟩
abbrev S28x128x512 : Shape := ⟨3, ![28, 128, 512]⟩
abbrev S28x1x512 : Shape := ⟨3, ![28, 1, 512]⟩
abbrev S128x512 : Shape := ⟨2, ![128, 512]⟩
abbrev S1024x7168 : Shape := ⟨2, ![1024, 7168]⟩
abbrev S1024x512 : Shape := ⟨2, ![1024, 512]⟩
abbrev S1x1024x128 : Shape := ⟨3, ![1, 1024, 128]⟩
abbrev S1024x128 : Shape := ⟨2, ![1024, 128]⟩
abbrev S256x512 : Shape := ⟨2, ![256, 512]⟩
abbrev S512x256 : Shape := ⟨2, ![512, 256]⟩
abbrev S1x512x256 : Shape := ⟨3, ![1, 512, 256]⟩

abbrev nBuf : Space → Nat
  | .hbm => 9
  | .vmem => 13
  | .smem => 0
  | _ => 0

abbrev bufTy : (tb : Table) → Fin (tcTables nBuf tb) → BufTy
  | .hbm, ⟨0, _⟩ => ⟨S3072x7168, .i8⟩
  | .hbm, ⟨1, _⟩ => ⟨S3072, .f32⟩
  | .hbm, ⟨2, _⟩ => ⟨S3x3072x128, .bf16⟩
  | .hbm, ⟨3, _⟩ => ⟨S3584x21504, .i8⟩
  | .hbm, ⟨4, _⟩ => ⟨S56x21504, .f32⟩
  | .hbm, ⟨5, _⟩ => ⟨S3x128x7168, .bf16⟩
  | .hbm, ⟨6, _⟩ => ⟨S3072x1, .f32⟩
  | .hbm, ⟨7, _⟩ => ⟨S3072x128, .f32⟩
  | .hbm, ⟨8, _⟩ => ⟨S12x21504x256, .f32⟩
  | .local _ .vmem, ⟨0, _⟩ => ⟨S3072x7168, .i8⟩
  | .local _ .vmem, ⟨1, _⟩ => ⟨S3072x128, .f32⟩
  | .local _ .vmem, ⟨2, _⟩ => ⟨S1x3072x128, .bf16⟩
  | .local _ .vmem, ⟨3, _⟩ => ⟨S1x3072x128, .bf16⟩
  | .local _ .vmem, ⟨4, _⟩ => ⟨S3584x512, .i8⟩
  | .local _ .vmem, ⟨5, _⟩ => ⟨S3584x512, .i8⟩
  | .local _ .vmem, ⟨6, _⟩ => ⟨S56x512, .f32⟩
  | .local _ .vmem, ⟨7, _⟩ => ⟨S56x512, .f32⟩
  | .local _ .vmem, ⟨8, _⟩ => ⟨S1x128x512, .bf16⟩
  | .local _ .vmem, ⟨9, _⟩ => ⟨S1x128x512, .bf16⟩
  | .local _ .vmem, ⟨10, _⟩ => ⟨S12x512x256, .f32⟩
  | .local _ .vmem, ⟨11, _⟩ => ⟨S12x512x256, .f32⟩
  | .local _ .vmem, ⟨12, _⟩ => ⟨S7168x512, .bf16⟩
  | _, _ => ⟨S3072x7168, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![42], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c14_i32 : BitVec 32 := 14#32
  let v0 : BitVec 32 := Scalar.divsi arg0 c14_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c14_i32 c0_i32_1
  let v7 : BitVec 32 := Scalar.extui v6
  let c0_i32_2 : BitVec 32 := 0#32
  let v8 : BitVec 1 := Scalar.cmpi .slt c14_i32 c0_i32_2
  let v9 : BitVec 32 := Scalar.extui v8
  let v10 : BitVec 32 := Scalar.subi v7 v9
  let v11 : BitVec 1 := Scalar.cmpi .ne v5 v10
  let v12 : BitVec 32 := Scalar.remsi arg0 c14_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c14_i32 : BitVec 32 := 14#32
  let v0 : BitVec 32 := Scalar.divsi arg0 c14_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c14_i32 c0_i32_1
  let v7 : BitVec 32 := Scalar.extui v6
  let c0_i32_2 : BitVec 32 := 0#32
  let v8 : BitVec 1 := Scalar.cmpi .slt c14_i32 c0_i32_2
  let v9 : BitVec 32 := Scalar.extui v8
  let v10 : BitVec 32 := Scalar.subi v7 v9
  let v11 : BitVec 1 := Scalar.cmpi .ne v5 v10
  let v12 : BitVec 32 := Scalar.remsi arg0 c14_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c14_i32_4 : BitVec 32 := 14#32
  let c0_i32_5 : BitVec 32 := 0#32
  let v17 : BitVec 1 := Scalar.cmpi .eq c14_i32_4 c0_i32_5
  let c1_i32_6 : BitVec 32 := 1#32
  let v18 : BitVec 32 := Scalar.select v17 c1_i32_6 c14_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S3072x7168 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S3072x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x3072x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3584x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S56x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S12x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== QkvReferenceIdeal.lean ====
abbrev S3072x7168 : Shape := ⟨2, ![3072, 7168]⟩
abbrev S3072 : Shape := ⟨1, ![3072]⟩
abbrev S3x3072x128 : Shape := ⟨3, ![3, 3072, 128]⟩
abbrev S3584x21504 : Shape := ⟨2, ![3584, 21504]⟩
abbrev S56x21504 : Shape := ⟨2, ![56, 21504]⟩
abbrev S3x128x7168 : Shape := ⟨3, ![3, 128, 7168]⟩
abbrev S_ : Shape := ⟨0, ![]⟩
abbrev S28x21504 : Shape := ⟨2, ![28, 21504]⟩
abbrev S28x128x21504 : Shape := ⟨3, ![28, 128, 21504]⟩
abbrev S28x1x21504 : Shape := ⟨3, ![28, 1, 21504]⟩
abbrev S3072x3584 : Shape := ⟨2, ![3072, 3584]⟩
abbrev S3072x21504 : Shape := ⟨2, ![3072, 21504]⟩
abbrev S3072x1 : Shape := ⟨2, ![3072, 1]⟩
abbrev S3072x3x7168 : Shape := ⟨3, ![3072, 3, 7168]⟩
abbrev S3x7168x3072 : Shape := ⟨3, ![3, 7168, 3072]⟩
abbrev S12x256x21504 : Shape := ⟨3, ![12, 256, 21504]⟩
abbrev S12x21504x256 : Shape := ⟨3, ![12, 21504, 256]⟩

abbrev nBuf : Space → Nat
  | .hbm => 62
  | .vmem => 0
  | .smem => 0
  | _ => 0

abbrev bufTy : (tb : Table) → Fin (tcTables nBuf tb) → BufTy
  | .hbm, ⟨0, _⟩ => ⟨S3072x7168, .i8⟩
  | .hbm, ⟨1, _⟩ => ⟨S3072, .f32⟩
  | .hbm, ⟨2, _⟩ => ⟨S3x3072x128, .bf16⟩
  | .hbm, ⟨3, _⟩ => ⟨S3584x21504, .i8⟩
  | .hbm, ⟨4, _⟩ => ⟨S56x21504, .f32⟩
  | .hbm, ⟨5, _⟩ => ⟨S3x128x7168, .bf16⟩
  | .hbm, ⟨6, _⟩ => ⟨S3584x21504, .i32⟩
  | .hbm, ⟨7, _⟩ => ⟨S_, .i32⟩
  | .hbm, ⟨8, _⟩ => ⟨S3584x21504, .i32⟩
  | .hbm, ⟨9, _⟩ => ⟨S3584x21504, .i32⟩
  | .hbm, ⟨10, _⟩ => ⟨S_, .i32⟩
  | .hbm, ⟨11, _⟩ => ⟨S3584x21504, .i32⟩
  | .hbm, ⟨12, _⟩ => ⟨S3584x21504, .i32⟩
  | .hbm, ⟨13, _⟩ => ⟨S_, .i32⟩
  | .hbm, ⟨14, _⟩ => ⟨S3584x21504, .i32⟩
  | .hbm, ⟨15, _⟩ => ⟨S3584x21504, .i32⟩
  | .hbm, ⟨16, _⟩ => ⟨S_, .i32⟩
  | .hbm, ⟨17, _⟩ => ⟨S3584x21504, .i32⟩
  | .hbm, ⟨18, _⟩ => ⟨S3584x21504, .i1⟩
  | .hbm, ⟨19, _⟩ => ⟨S_, .i32⟩
  | .hbm, ⟨20, _⟩ => ⟨S3584x21504, .i32⟩
  | .hbm, ⟨21, _⟩ => ⟨S3584x21504, .i32⟩
  | .hbm, ⟨22, _⟩ => ⟨S3584x21504, .i32⟩
  | .hbm, ⟨23, _⟩ => ⟨S_, .i32⟩
  | .hbm, ⟨24, _⟩ => ⟨S3584x21504, .i32⟩
  | .hbm, ⟨25, _⟩ => ⟨S3584x21504, .i1⟩
  | .hbm, ⟨26, _⟩ => ⟨S_, .i32⟩
  | .hbm, ⟨27, _⟩ => ⟨S3584x21504, .i32⟩
  | .hbm, ⟨28, _⟩ => ⟨S3584x21504, .i32⟩
  | .hbm, ⟨29, _⟩ => ⟨S3584x21504, .i32⟩
  | .hbm, ⟨30, _⟩ => ⟨S28x21504, .f32⟩
  | .hbm, ⟨31, _⟩ => ⟨S3584x21504, .bf16⟩
  | .hbm, ⟨32, _⟩ => ⟨S28x128x21504, .bf16⟩
  | .hbm, ⟨33, _⟩ => ⟨S28x1x21504, .f32⟩
  | .hbm, ⟨34, _⟩ => ⟨S28x1x21504, .bf16⟩
  | .hbm, ⟨35, _⟩ => ⟨S28x128x21504, .bf16⟩
  | .hbm, ⟨36, _⟩ => ⟨S28x128x21504, .bf16⟩
  | .hbm, ⟨37, _⟩ => ⟨S3584x21504, .bf16⟩
  | .hbm, ⟨38, _⟩ => ⟨S28x21504, .f32⟩
  | .hbm, ⟨39, _⟩ => ⟨S3584x21504, .bf16⟩
  | .hbm, ⟨40, _⟩ => ⟨S28x128x21504, .bf16⟩
  | .hbm, ⟨41, _⟩ => ⟨S28x1x21504, .f32⟩
  | .hbm, ⟨42, _⟩ => ⟨S28x1x21504, .bf16⟩
  | .hbm, ⟨43, _⟩ => ⟨S28x128x21504, .bf16⟩
  | .hbm, ⟨44, _⟩ => ⟨S28x128x21504, .bf16⟩
  | .hbm, ⟨45, _⟩ => ⟨S3584x21504, .bf16⟩
  | .hbm, ⟨46, _⟩ => ⟨S3072x7168, .i32⟩
  | .hbm, ⟨47, _⟩ => ⟨S3072x7168, .bf16⟩
  | .hbm, ⟨48, _⟩ => ⟨S3072x3584, .bf16⟩
  | .hbm, ⟨49, _⟩ => ⟨S3072x21504, .f32⟩
  | .hbm, ⟨50, _⟩ => ⟨S3072x3584, .bf16⟩
  | .hbm, ⟨51, _⟩ => ⟨S3072x21504, .f32⟩
  | .hbm, ⟨52, _⟩ => ⟨S3072x21504, .f32⟩
  | .hbm, ⟨53, _⟩ => ⟨S3072x1, .f32⟩
  | .hbm, ⟨54, _⟩ => ⟨S3072x21504, .f32⟩
  | .hbm, ⟨55, _⟩ => ⟨S3072x21504, .f32⟩
  | .hbm, ⟨56, _⟩ => ⟨S3072x3x7168, .f32⟩
  | .hbm, ⟨57, _⟩ => ⟨S3x7168x3072, .f32⟩
  | .hbm, ⟨58, _⟩ => ⟨S3072x3x7168, .f32⟩
  | .hbm, ⟨59, _⟩ => ⟨S3072x3x7168, .f32⟩
  | .hbm, ⟨60, _⟩ => ⟨S12x256x21504, .f32⟩
  | .hbm, ⟨61, _⟩ => ⟨S12x21504x256, .f32⟩
  | _, _ => ⟨S3072x7168, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_v5 : Ref sig .tc := ⟨.hbm, 14, rfl⟩
abbrev main_v6 : Ref sig .tc := ⟨.hbm, 15, rfl⟩
abbrev main_c_2 : Ref sig .tc := ⟨.hbm, 16, rfl⟩
abbrev main_v7 : Ref sig .tc := ⟨.hbm, 17, rfl⟩
abbrev main_v8 : Ref sig .tc := ⟨.hbm, 18, rfl⟩
abbrev main_c_3 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_4 : Ref sig .tc := ⟨.hbm, 23, rfl⟩
abbrev main_v12 : Ref sig .tc := ⟨.hbm, 24, rfl⟩
abbrev main_v13 : Ref sig .tc := ⟨.hbm, 25, rfl⟩
abbrev main_c_5 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩

abbrev nD : Nat := 1
abbrev τ : Topo := Topo.v7x

variable {F : FTy → Type} [FloatOps F]
-- ==== Oproj.lean ====
abbrev S3072x7168 : Shape := ⟨2, ![3072, 7168]⟩
abbrev S3072 : Shape := ⟨1, ![3072]⟩
abbrev S7168x1792 : Shape := ⟨2, ![7168, 1792]⟩
abbrev S56x3584 : Shape := ⟨2, ![56, 3584]⟩
abbrev S3072x1 : Shape := ⟨2, ![3072, 1]⟩
abbrev S3072x128 : Shape := ⟨2, ![3072, 128]⟩
abbrev S2x3072x1792 : Shape := ⟨3, ![2, 3072, 1792]⟩
abbrev S7168x256 : Shape := ⟨2, ![7168, 256]⟩
abbrev S56x256 : Shape := ⟨2, ![56, 256]⟩
abbrev S2x3072x256 : Shape := ⟨3, ![2, 3072, 256]⟩
abbrev S7168x512 : Shape := ⟨2, ![7168, 512]⟩
abbrev S1792x256 : Shape := ⟨2, ![1792, 256]⟩
abbrev S56x128x256 : Shape := ⟨3, ![56, 128, 256]⟩
abbrev S56x1x256 : Shape := ⟨3, ![56, 1, 256]⟩
abbrev S1024x7168 : Shape := ⟨2, ![1024, 7168]⟩
abbrev S1024x512 : Shape := ⟨2, ![1024, 512]⟩
abbrev S1024x128 : Shape := ⟨2, ![1024, 128]⟩
abbrev S1024x256 : Shape := ⟨2, ![1024, 256]⟩
abbrev S1x1024x256 : Shape := ⟨3, ![1, 1024, 256]⟩

abbrev nBuf : Space → Nat
  | .hbm => 7
  | .vmem => 11
  | .smem => 0
  | _ => 0

abbrev bufTy : (tb : Table) → Fin (tcTables nBuf tb) → BufTy
  | .hbm, ⟨0, _⟩ => ⟨S3072x7168, .i8⟩
  | .hbm, ⟨1, _⟩ => ⟨S3072, .f32⟩
  | .hbm, ⟨2, _⟩ => ⟨S7168x1792, .i8⟩
  | .hbm, ⟨3, _⟩ => ⟨S56x3584, .f32⟩
  | .hbm, ⟨4, _⟩ => ⟨S3072x1, .f32⟩
  | .hbm, ⟨5, _⟩ => ⟨S3072x128, .f32⟩
  | .hbm, ⟨6, _⟩ => ⟨S2x3072x1792, .f32⟩
  | .local _ .vmem, ⟨0, _⟩ => ⟨S3072x7168, .i8⟩
  | .local _ .vmem, ⟨1, _⟩ => ⟨S3072x128, .f32⟩
  | .local _ .vmem, ⟨2, _⟩ => ⟨S7168x256, .i8⟩
  | .local _ .vmem, ⟨3, _⟩ => ⟨S7168x256, .i8⟩
  | .local _ .vmem, ⟨4, _⟩ => ⟨S56x256, .f32⟩
  | .local _ .vmem, ⟨5, _⟩ => ⟨S56x256, .f32⟩
  | .local _ .vmem, ⟨6, _⟩ => ⟨S56x256, .f32⟩
  | .local _ .vmem, ⟨7, _⟩ => ⟨S56x256, .f32⟩
  | .local _ .vmem, ⟨8, _⟩ => ⟨S2x3072x256, .f32⟩
  | .local _ .vmem, ⟨9, _⟩ => ⟨S2x3072x256, .f32⟩
  | .local _ .vmem, ⟨10, _⟩ => ⟨S7168x512, .bf16⟩
  | _, _ => ⟨S3072x7168, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![7], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c7_i32 : BitVec 32 := 7#32
  let v0 : BitVec 32 := Scalar.addi c7_i32 arg0
  let c0_i32 : BitVec 32 := 0#32
  let c0_i32_0 : BitVec 32 := 0#32
  ![c0_i32.toNat, v0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S3072x7168 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S3072x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S7168x256 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S56x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S56x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x3072x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OprojReferenceIdeal.lean ====
abbrev S3072x7168 : Shape := ⟨2, ![3072, 7168]⟩
abbrev S3072 : Shape := ⟨1, ![3072]⟩
abbrev S7168x1792 : Shape := ⟨2, ![7168, 1792]⟩
abbrev S56x3584 : Shape := ⟨2, ![56, 3584]⟩
abbrev S_ : Shape := ⟨0, ![]⟩
abbrev S56x1792 : Shape := ⟨2, ![56, 1792]⟩
abbrev S56x128x1792 : Shape := ⟨3, ![56, 128, 1792]⟩
abbrev S56x1x1792 : Shape := ⟨3, ![56, 1, 1792]⟩
abbrev S3072x1792 : Shape := ⟨2, ![3072, 1792]⟩
abbrev S3072x3584 : Shape := ⟨2, ![3072, 3584]⟩
abbrev S3072x1 : Shape := ⟨2, ![3072, 1]⟩
abbrev S3072x2x1792 : Shape := ⟨3, ![3072, 2, 1792]⟩
abbrev S2x3072x1792 : Shape := ⟨3, ![2, 3072, 1792]⟩

abbrev nBuf : Space → Nat
  | .hbm => 54
  | .vmem => 0
  | .smem => 0
  | _ => 0

abbrev bufTy : (tb : Table) → Fin (tcTables nBuf tb) → BufTy
  | .hbm, ⟨0, _⟩ => ⟨S3072x7168, .i8⟩
  | .hbm, ⟨1, _⟩ => ⟨S3072, .f32⟩
  | .hbm, ⟨2, _⟩ => ⟨S7168x1792, .i8⟩
  | .hbm, ⟨3, _⟩ => ⟨S56x3584, .f32⟩
  | .hbm, ⟨4, _⟩ => ⟨S7168x1792, .i32⟩
  | .hbm, ⟨5, _⟩ => ⟨S_, .i32⟩
  | .hbm, ⟨6, _⟩ => ⟨S7168x1792, .i32⟩
  | .hbm, ⟨7, _⟩ => ⟨S7168x1792, .i32⟩
  | .hbm, ⟨8, _⟩ => ⟨S_, .i32⟩
  | .hbm, ⟨9, _⟩ => ⟨S7168x1792, .i32⟩
  | .hbm, ⟨10, _⟩ => ⟨S7168x1792, .i32⟩
  | .hbm, ⟨11, _⟩ => ⟨S_, .i32⟩
  | .hbm, ⟨12, _⟩ => ⟨S7168x1792, .i32⟩
  | .hbm, ⟨13, _⟩ => ⟨S7168x1792, .i32⟩
  | .hbm, ⟨14, _⟩ => ⟨S_, .i32⟩
  | .hbm, ⟨15, _⟩ => ⟨S7168x1792, .i32⟩
  | .hbm, ⟨16, _⟩ => ⟨S7168x1792, .i1⟩
  | .hbm, ⟨17, _⟩ => ⟨S_, .i32⟩
  | .hbm, ⟨18, _⟩ => ⟨S7168x1792, .i32⟩
  | .hbm, ⟨19, _⟩ => ⟨S7168x1792, .i32⟩
  | .hbm, ⟨20, _⟩ => ⟨S7168x1792, .i32⟩
  | .hbm, ⟨21, _⟩ => ⟨S_, .i32⟩
  | .hbm, ⟨22, _⟩ => ⟨S7168x1792, .i32⟩
  | .hbm, ⟨23, _⟩ => ⟨S7168x1792, .i1⟩
  | .hbm, ⟨24, _⟩ => ⟨S_, .i32⟩
  | .hbm, ⟨25, _⟩ => ⟨S7168x1792, .i32⟩
  | .hbm, ⟨26, _⟩ => ⟨S7168x1792, .i32⟩
  | .hbm, ⟨27, _⟩ => ⟨S7168x1792, .i32⟩
  | .hbm, ⟨28, _⟩ => ⟨S56x1792, .f32⟩
  | .hbm, ⟨29, _⟩ => ⟨S7168x1792, .bf16⟩
  | .hbm, ⟨30, _⟩ => ⟨S56x128x1792, .bf16⟩
  | .hbm, ⟨31, _⟩ => ⟨S56x1x1792, .f32⟩
  | .hbm, ⟨32, _⟩ => ⟨S56x1x1792, .bf16⟩
  | .hbm, ⟨33, _⟩ => ⟨S56x128x1792, .bf16⟩
  | .hbm, ⟨34, _⟩ => ⟨S56x128x1792, .bf16⟩
  | .hbm, ⟨35, _⟩ => ⟨S7168x1792, .bf16⟩
  | .hbm, ⟨36, _⟩ => ⟨S56x1792, .f32⟩
  | .hbm, ⟨37, _⟩ => ⟨S7168x1792, .bf16⟩
  | .hbm, ⟨38, _⟩ => ⟨S56x128x1792, .bf16⟩
  | .hbm, ⟨39, _⟩ => ⟨S56x1x1792, .f32⟩
  | .hbm, ⟨40, _⟩ => ⟨S56x1x1792, .bf16⟩
  | .hbm, ⟨41, _⟩ => ⟨S56x128x1792, .bf16⟩
  | .hbm, ⟨42, _⟩ => ⟨S56x128x1792, .bf16⟩
  | .hbm, ⟨43, _⟩ => ⟨S7168x1792, .bf16⟩
  | .hbm, ⟨44, _⟩ => ⟨S3072x7168, .i32⟩
  | .hbm, ⟨45, _⟩ => ⟨S3072x7168, .bf16⟩
  | .hbm, ⟨46, _⟩ => ⟨S3072x1792, .f32⟩
  | .hbm, ⟨47, _⟩ => ⟨S3072x1792, .f32⟩
  | .hbm, ⟨48, _⟩ => ⟨S3072x3584, .f32⟩
  | .hbm, ⟨49, _⟩ => ⟨S3072x1, .f32⟩
  | .hbm, ⟨50, _⟩ => ⟨S3072x3584, .f32⟩
  | .hbm, ⟨51, _⟩ => ⟨S3072x3584, .f32⟩
  | .hbm, ⟨52, _⟩ => ⟨S3072x2x1792, .f32⟩
  | .hbm, ⟨53, _⟩ => ⟨S2x3072x1792, .f32⟩
  | _, _ => ⟨S3072x7168, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_v8 : Ref sig .tc := ⟨.hbm, 16, rfl⟩
abbrev main_c_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_4 : Ref sig .tc := ⟨.hbm, 21, rfl⟩
abbrev main_v12 : Ref sig .tc := ⟨.hbm, 22, rfl⟩
abbrev main_v13 : Ref sig .tc := ⟨.hbm, 23, rfl⟩
abbrev main_c_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩

abbrev nD : Nat := 1
abbrev τ : Topo := Topo.v7x

variable {F : FTy → Type} [FloatOps F]
-- ==== NormFf.lean ====
abbrev S2x3072x1792 : Shape := ⟨3, ![2, 3072, 1792]⟩
abbrev S3584 : Shape := ⟨1, ![3584]⟩
abbrev S3584x128 : Shape := ⟨2, ![3584, 128]⟩
abbrev S1x3584 : Shape := ⟨2, ![1, 3584]⟩
abbrev S3072x3584 : Shape := ⟨2, ![3072, 3584]⟩
abbrev S12x1x256 : Shape := ⟨3, ![12, 1, 256]⟩
abbrev S3072x128 : Shape := ⟨2, ![3072, 128]⟩
abbrev S2x256x1792 : Shape := ⟨3, ![2, 256, 1792]⟩
abbrev S256x3584 : Shape := ⟨2, ![256, 3584]⟩
abbrev S1x1x256 : Shape := ⟨3, ![1, 1, 256]⟩
abbrev S256x128 : Shape := ⟨2, ![256, 128]⟩
abbrev S1x256x1792 : Shape := ⟨3, ![1, 256, 1792]⟩
abbrev S256x1792 : Shape := ⟨2, ![256, 1792]⟩
abbrev S256 : Shape := ⟨1, ![256]⟩
abbrev S256x1 : Shape := ⟨2, ![256, 1]⟩
abbrev S128x256 : Shape := ⟨2, ![128, 256]⟩
abbrev S1x256 : Shape := ⟨2, ![1, 256]⟩

abbrev nBuf : Space → Nat
  | .hbm => 8
  | .vmem => 12
  | .smem => 0
  | _ => 0

abbrev bufTy : (tb : Table) → Fin (tcTables nBuf tb) → BufTy
  | .hbm, ⟨0, _⟩ => ⟨S2x3072x1792, .f32⟩
  | .hbm, ⟨1, _⟩ => ⟨S3584, .f32⟩
  | .hbm, ⟨2, _⟩ => ⟨S3584x128, .bf16⟩
  | .hbm, ⟨3, _⟩ => ⟨S1x3584, .f32⟩
  | .hbm, ⟨4, _⟩ => ⟨S3072x3584, .i8⟩
  | .hbm, ⟨5, _⟩ => ⟨S12x1x256, .f32⟩
  | .hbm, ⟨6, _⟩ => ⟨S3072x128, .f32⟩
  | .hbm, ⟨7, _⟩ => ⟨S3072x128, .bf16⟩
  | .local _ .vmem, ⟨0, _⟩ => ⟨S2x256x1792, .f32⟩
  | .local _ .vmem, ⟨1, _⟩ => ⟨S2x256x1792, .f32⟩
  | .local _ .vmem, ⟨2, _⟩ => ⟨S1x3584, .f32⟩
  | .local _ .vmem, ⟨3, _⟩ => ⟨S3584x128, .bf16⟩
  | .local _ .vmem, ⟨4, _⟩ => ⟨S256x3584, .i8⟩
  | .local _ .vmem, ⟨5, _⟩ => ⟨S256x3584, .i8⟩
  | .local _ .vmem, ⟨6, _⟩ => ⟨S1x1x256, .f32⟩
  | .local _ .vmem, ⟨7, _⟩ => ⟨S1x1x256, .f32⟩
  | .local _ .vmem, ⟨8, _⟩ => ⟨S256x128, .f32⟩
  | .local _ .vmem, ⟨9, _⟩ => ⟨S256x128, .f32⟩
  | .local _ .vmem, ⟨10, _⟩ => ⟨S256x128, .bf16⟩
  | .local _ .vmem, ⟨11, _⟩ => ⟨S256x128, .bf16⟩
  | _, _ => ⟨S2x3072x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![12], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2x256x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x3584 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3584x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x3584 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== NormFfReferenceIdeal.lean ====
abbrev S2x3072x1792 : Shape := ⟨3, ![2, 3072, 1792]⟩
abbrev S3584 : Shape := ⟨1, ![3584]⟩
abbrev S3584x128 : Shape := ⟨2, ![3584, 128]⟩
abbrev S3072x2x1792 : Shape := ⟨3, ![3072, 2, 1792]⟩
abbrev S3072x3584 : Shape := ⟨2, ![3072, 3584]⟩
abbrev S_ : Shape := ⟨0, ![]⟩
abbrev S3072 : Shape := ⟨1, ![3072]⟩
abbrev S3072x1 : Shape := ⟨2, ![3072, 1]⟩
abbrev S1x3584 : Shape := ⟨2, ![1, 3584]⟩
abbrev S3072x128 : Shape := ⟨2, ![3072, 128]⟩
abbrev S12x1x256 : Shape := ⟨3, ![12, 1, 256]⟩

abbrev nBuf : Space → Nat
  | .hbm => 54
  | .vmem => 0
  | .smem => 0
  | _ => 0

abbrev bufTy : (tb : Table) → Fin (tcTables nBuf tb) → BufTy
  | .hbm, ⟨0, _⟩ => ⟨S2x3072x1792, .f32⟩
  | .hbm, ⟨1, _⟩ => ⟨S3584, .f32⟩
  | .hbm, ⟨2, _⟩ => ⟨S3584x128, .bf16⟩
  | .hbm, ⟨3, _⟩ => ⟨S3072x2x1792, .f32⟩
  | .hbm, ⟨4, _⟩ => ⟨S3072x3584, .f32⟩
  | .hbm, ⟨5, _⟩ => ⟨S3072x3584, .f32⟩
  | .hbm, ⟨6, _⟩ => ⟨S_, .f32⟩
  | .hbm, ⟨7, _⟩ => ⟨S3072, .f32⟩
  | .hbm, ⟨8, _⟩ => ⟨S3072x1, .f32⟩
  | .hbm, ⟨9, _⟩ => ⟨S_, .f32⟩
  | .hbm, ⟨10, _⟩ => ⟨S3072x1, .f32⟩
  | .hbm, ⟨11, _⟩ => ⟨S3072x1, .f32⟩
  | .hbm, ⟨12, _⟩ => ⟨S_, .f32⟩
  | .hbm, ⟨13, _⟩ => ⟨S3072x1, .f32⟩
  | .hbm, ⟨14, _⟩ => ⟨S3072x1, .f32⟩
  | .hbm, ⟨15, _⟩ => ⟨S3072x1, .f32⟩
  | .hbm, ⟨16, _⟩ => ⟨S3072x3584, .f32⟩
  | .hbm, ⟨17, _⟩ => ⟨S3072x3584, .f32⟩
  | .hbm, ⟨18, _⟩ => ⟨S1x3584, .f32⟩
  | .hbm, ⟨19, _⟩ => ⟨S3072x3584, .f32⟩
  | .hbm, ⟨20, _⟩ => ⟨S3072x3584, .f32⟩
  | .hbm, ⟨21, _⟩ => ⟨S3072x3584, .f32⟩
  | .hbm, ⟨22, _⟩ => ⟨S_, .f32⟩
  | .hbm, ⟨23, _⟩ => ⟨S3072, .f32⟩
  | .hbm, ⟨24, _⟩ => ⟨S_, .f32⟩
  | .hbm, ⟨25, _⟩ => ⟨S3072, .f32⟩
  | .hbm, ⟨26, _⟩ => ⟨S3072, .i1⟩
  | .hbm, ⟨27, _⟩ => ⟨S_, .f32⟩
  | .hbm, ⟨28, _⟩ => ⟨S3072, .f32⟩
  | .hbm, ⟨29, _⟩ => ⟨S3072, .f32⟩
  | .hbm, ⟨30, _⟩ => ⟨S_, .f32⟩
  | .hbm, ⟨31, _⟩ => ⟨S_, .f32⟩
  | .hbm, ⟨32, _⟩ => ⟨S3072, .f32⟩
  | .hbm, ⟨33, _⟩ => ⟨S3072, .f32⟩
  | .hbm, ⟨34, _⟩ => ⟨S3072x1, .f32⟩
  | .hbm, ⟨35, _⟩ => ⟨S3072x3584, .f32⟩
  | .hbm, ⟨36, _⟩ => ⟨S3072x3584, .f32⟩
  | .hbm, ⟨37, _⟩ => ⟨S3072x3584, .f32⟩
  | .hbm, ⟨38, _⟩ => ⟨S_, .i32⟩
  | .hbm, ⟨39, _⟩ => ⟨S_, .i32⟩
  | .hbm, ⟨40, _⟩ => ⟨S_, .f32⟩
  | .hbm, ⟨41, _⟩ => ⟨S3072x3584, .f32⟩
  | .hbm, ⟨42, _⟩ => ⟨S3072x3584, .f32⟩
  | .hbm, ⟨43, _⟩ => ⟨S_, .f32⟩
  | .hbm, ⟨44, _⟩ => ⟨S3072x3584, .f32⟩
  | .hbm, ⟨45, _⟩ => ⟨S3072x3584, .f32⟩
  | .hbm, ⟨46, _⟩ => ⟨S3072x3584, .i32⟩
  | .hbm, ⟨47, _⟩ => ⟨S3072x3584, .i8⟩
  | .hbm, ⟨48, _⟩ => ⟨S3072x3584, .bf16⟩
  | .hbm, ⟨49, _⟩ => ⟨S3072x128, .f32⟩
  | .hbm, ⟨50, _⟩ => ⟨S3072x128, .bf16⟩
  | .hbm, ⟨51, _⟩ => ⟨S12x1x256, .f32⟩
  | .hbm, ⟨52, _⟩ => ⟨S3072x1, .f32⟩
  | .hbm, ⟨53, _⟩ => ⟨S3072x128, .f32⟩
  | _, _ => ⟨S2x3072x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_call0_v0 : Ref sig .tc := ⟨.hbm, 31, rfl⟩
abbrev main_call0_v1 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c : Ref sig .tc := ⟨.hbm, 38, rfl⟩
abbrev main_c_6 : Ref sig .tc := ⟨.hbm, 39, rfl⟩
abbrev main_call2_v0 : Ref sig .tc := ⟨.hbm, 40, rfl⟩
abbrev main_call2_v1 : Ref sig .tc := ⟨.hbm, 41, rfl⟩
abbrev main_call2_v2 : Ref sig .tc := ⟨.hbm, 42, rfl⟩
abbrev main_call2_v3 : Ref sig .tc := ⟨.hbm, 43, rfl⟩
abbrev main_call2_v4 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩

abbrev nD : Nat := 1
abbrev τ : Topo := Topo.v7x

variable {F : FTy → Type} [FloatOps F]
-- ==== GateUp.lean ====
abbrev S3072x3584 : Shape := ⟨2, ![3072, 3584]⟩
abbrev S3072 : Shape := ⟨1, ![3072]⟩
abbrev S3072x128 : Shape := ⟨2, ![3072, 128]⟩
abbrev S1792x28672 : Shape := ⟨2, ![1792, 28672]⟩
abbrev S28x28672 : Shape := ⟨2, ![28, 28672]⟩
abbrev S128x28672 : Shape := ⟨2, ![128, 28672]⟩
abbrev S3072x1 : Shape := ⟨2, ![3072, 1]⟩
abbrev S3072x14336 : Shape := ⟨2, ![3072, 14336]⟩
abbrev S1792x256 : Shape := ⟨2, ![1792, 256]⟩
abbrev S28x256 : Shape := ⟨2, ![28, 256]⟩
abbrev S128x256 : Shape := ⟨2, ![128, 256]⟩
abbrev S3072x256 : Shape := ⟨2, ![3072, 256]⟩
abbrev S3584x512 : Shape := ⟨2, ![3584, 512]⟩
abbrev S14x256 : Shape := ⟨2, ![14, 256]⟩
abbrev S448x256 : Shape := ⟨2, ![448, 256]⟩
abbrev S14x128x256 : Shape := ⟨3, ![14, 128, 256]⟩
abbrev S14x1x256 : Shape := ⟨3, ![14, 1, 256]⟩
abbrev S128x512 : Shape := ⟨2, ![128, 512]⟩
abbrev S1024x3584 : Shape := ⟨2, ![1024, 3584]⟩
abbrev S1024x512 : Shape := ⟨2, ![1024, 512]⟩
abbrev S1024x128 : Shape := ⟨2, ![1024, 128]⟩
abbrev S1024x256 : Shape := ⟨2, ![1024, 256]⟩

abbrev nBuf : Space → Nat
  | .hbm => 10
  | .vmem => 19
  | .smem => 0
  | _ => 0

abbrev bufTy : (tb : Table) → Fin (tcTables nBuf tb) → BufTy
  | .hbm, ⟨0, _⟩ => ⟨S3072x3584, .i8⟩
  | .hbm, ⟨1, _⟩ => ⟨S3072, .f32⟩
  | .hbm, ⟨2, _⟩ => ⟨S3072x128, .bf16⟩
  | .hbm, ⟨3, _⟩ => ⟨S1792x28672, .i8⟩
  | .hbm, ⟨4, _⟩ => ⟨S28x28672, .f32⟩
  | .hbm, ⟨5, _⟩ => ⟨S128x28672, .bf16⟩
  | .hbm, ⟨6, _⟩ => ⟨S3072x1, .f32⟩
  | .hbm, ⟨7, _⟩ => ⟨S3072x128, .f32⟩
  | .hbm, ⟨8, _⟩ => ⟨S3072x14336, .f32⟩
  | .hbm, ⟨9, _⟩ => ⟨S3072x128, .f32⟩
  | .local _ .vmem, ⟨0, _⟩ => ⟨S3072x3584, .i8⟩
  | .local _ .vmem, ⟨1, _⟩ => ⟨S3072x128, .f32⟩
  | .local _ .vmem, ⟨2, _⟩ => ⟨S3072x128, .bf16⟩
  | .local _ .vmem, ⟨3, _⟩ => ⟨S1792x256, .i8⟩
  | .local _ .vmem, ⟨4, _⟩ => ⟨S1792x256, .i8⟩
  | .local _ .vmem, ⟨5, _⟩ => ⟨S1792x256, .i8⟩
  | .local _ .vmem, ⟨6, _⟩ => ⟨S1792x256, .i8⟩
  | .local _ .vmem, ⟨7, _⟩ => ⟨S28x256, .f32⟩
  | .local _ .vmem, ⟨8, _⟩ => ⟨S28x256, .f32⟩
  | .local _ .vmem, ⟨9, _⟩ => ⟨S28x256, .f32⟩
  | .local _ .vmem, ⟨10, _⟩ => ⟨S28x256, .f32⟩
  | .local _ .vmem, ⟨11, _⟩ => ⟨S128x256, .bf16⟩
  | .local _ .vmem, ⟨12, _⟩ => ⟨S128x256, .bf16⟩
  | .local _ .vmem, ⟨13, _⟩ => ⟨S128x256, .bf16⟩
  | .local _ .vmem, ⟨14, _⟩ => ⟨S128x256, .bf16⟩
  | .local _ .vmem, ⟨15, _⟩ => ⟨S3072x256, .f32⟩
  | .local _ .vmem, ⟨16, _⟩ => ⟨S3072x256, .f32⟩
  | .local _ .vmem, ⟨17, _⟩ => ⟨S3072x128, .f32⟩
  | .local _ .vmem, ⟨18, _⟩ => ⟨S3584x512, .bf16⟩
  | _, _ => ⟨S3072x3584, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_scratch0 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨1, ![56], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c56_i32 : BitVec 32 := 56#32
  let v0 : BitVec 32 := Scalar.addi c56_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c56_i32 : BitVec 32 := 56#32
  let v0 : BitVec 32 := Scalar.addi c56_i32 arg0
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c56_i32 : BitVec 32 := 56#32
  let v0 : BitVec 32 := Scalar.addi c56_i32 arg0
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S3072x3584 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S3072x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1792x256 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1792x256 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S28x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S28x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S3072x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S3072x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== GateUpReferenceIdeal.lean ====
abbrev S3072x3584 : Shape := ⟨2, ![3072, 3584]⟩
abbrev S3072 : Shape := ⟨1, ![3072]⟩
abbrev S3072x128 : Shape := ⟨2, ![3072, 128]⟩
abbrev S1792x28672 : Shape := ⟨2, ![1792, 28672]⟩
abbrev S28x28672 : Shape := ⟨2, ![28, 28672]⟩
abbrev S128x28672 : Shape := ⟨2, ![128, 28672]⟩
abbrev S_ : Shape := ⟨0, ![]⟩
abbrev S14x28672 : Shape := ⟨2, ![14, 28672]⟩
abbrev S14x128x28672 : Shape := ⟨3, ![14, 128, 28672]⟩
abbrev S14x1x28672 : Shape := ⟨3, ![14, 1, 28672]⟩
abbrev S3072x1792 : Shape := ⟨2, ![3072, 1792]⟩
abbrev S3072x28672 : Shape := ⟨2, ![3072, 28672]⟩
abbrev S3072x1 : Shape := ⟨2, ![3072, 1]⟩
abbrev S3072x14336 : Shape := ⟨2, ![3072, 14336]⟩
abbrev S3072x112x128 : Shape := ⟨3, ![3072, 112, 128]⟩

abbrev nBuf : Space → Nat
  | .hbm => 74
  | .vmem => 0
  | .smem => 0
  | _ => 0

abbrev bufTy : (tb : Table) → Fin (tcTables nBuf tb) → BufTy
  | .hbm, ⟨0, _⟩ => ⟨S3072x3584, .i8⟩
  | .hbm, ⟨1, _⟩ => ⟨S3072, .f32⟩
  | .hbm, ⟨2, _⟩ => ⟨S3072x128, .bf16⟩
  | .hbm, ⟨3, _⟩ => ⟨S1792x28672, .i8⟩
  | .hbm, ⟨4, _⟩ => ⟨S28x28672, .f32⟩
  | .hbm, ⟨5, _⟩ => ⟨S128x28672, .bf16⟩
  | .hbm, ⟨6, _⟩ => ⟨S1792x28672, .i32⟩
  | .hbm, ⟨7, _⟩ => ⟨S_, .i32⟩
  | .hbm, ⟨8, _⟩ => ⟨S1792x28672, .i32⟩
  | .hbm, ⟨9, _⟩ => ⟨S1792x28672, .i32⟩
  | .hbm, ⟨10, _⟩ => ⟨S_, .i32⟩
  | .hbm, ⟨11, _⟩ => ⟨S1792x28672, .i32⟩
  | .hbm, ⟨12, _⟩ => ⟨S1792x28672, .i32⟩
  | .hbm, ⟨13, _⟩ => ⟨S_, .i32⟩
  | .hbm, ⟨14, _⟩ => ⟨S1792x28672, .i32⟩
  | .hbm, ⟨15, _⟩ => ⟨S1792x28672, .i32⟩
  | .hbm, ⟨16, _⟩ => ⟨S_, .i32⟩
  | .hbm, ⟨17, _⟩ => ⟨S1792x28672, .i32⟩
  | .hbm, ⟨18, _⟩ => ⟨S1792x28672, .i1⟩
  | .hbm, ⟨19, _⟩ => ⟨S_, .i32⟩
  | .hbm, ⟨20, _⟩ => ⟨S1792x28672, .i32⟩
  | .hbm, ⟨21, _⟩ => ⟨S1792x28672, .i32⟩
  | .hbm, ⟨22, _⟩ => ⟨S1792x28672, .i32⟩
  | .hbm, ⟨23, _⟩ => ⟨S_, .i32⟩
  | .hbm, ⟨24, _⟩ => ⟨S1792x28672, .i32⟩
  | .hbm, ⟨25, _⟩ => ⟨S1792x28672, .i1⟩
  | .hbm, ⟨26, _⟩ => ⟨S_, .i32⟩
  | .hbm, ⟨27, _⟩ => ⟨S1792x28672, .i32⟩
  | .hbm, ⟨28, _⟩ => ⟨S1792x28672, .i32⟩
  | .hbm, ⟨29, _⟩ => ⟨S1792x28672, .i32⟩
  | .hbm, ⟨30, _⟩ => ⟨S14x28672, .f32⟩
  | .hbm, ⟨31, _⟩ => ⟨S1792x28672, .bf16⟩
  | .hbm, ⟨32, _⟩ => ⟨S14x128x28672, .bf16⟩
  | .hbm, ⟨33, _⟩ => ⟨S14x1x28672, .f32⟩
  | .hbm, ⟨34, _⟩ => ⟨S14x1x28672, .bf16⟩
  | .hbm, ⟨35, _⟩ => ⟨S14x128x28672, .bf16⟩
  | .hbm, ⟨36, _⟩ => ⟨S14x128x28672, .bf16⟩
  | .hbm, ⟨37, _⟩ => ⟨S1792x28672, .bf16⟩
  | .hbm, ⟨38, _⟩ => ⟨S14x28672, .f32⟩
  | .hbm, ⟨39, _⟩ => ⟨S1792x28672, .bf16⟩
  | .hbm, ⟨40, _⟩ => ⟨S14x128x28672, .bf16⟩
  | .hbm, ⟨41, _⟩ => ⟨S14x1x28672, .f32⟩
  | .hbm, ⟨42, _⟩ => ⟨S14x1x28672, .bf16⟩
  | .hbm, ⟨43, _⟩ => ⟨S14x128x28672, .bf16⟩
  | .hbm, ⟨44, _⟩ => ⟨S14x128x28672, .bf16⟩
  | .hbm, ⟨45, _⟩ => ⟨S1792x28672, .bf16⟩
  | .hbm, ⟨46, _⟩ => ⟨S3072x3584, .i32⟩
  | .hbm, ⟨47, _⟩ => ⟨S3072x3584, .bf16⟩
  | .hbm, ⟨48, _⟩ => ⟨S3072x1792, .bf16⟩
  | .hbm, ⟨49, _⟩ => ⟨S3072x28672, .f32⟩
  | .hbm, ⟨50, _⟩ => ⟨S3072x1792, .bf16⟩
  | .hbm, ⟨51, _⟩ => ⟨S3072x28672, .f32⟩
  | .hbm, ⟨52, _⟩ => ⟨S3072x28672, .f32⟩
  | .hbm, ⟨53, _⟩ => ⟨S3072x1, .f32⟩
  | .hbm, ⟨54, _⟩ => ⟨S3072x28672, .f32⟩
  | .hbm, ⟨55, _⟩ => ⟨S3072x28672, .f32⟩
  | .hbm, ⟨56, _⟩ => ⟨S3072x28672, .f32⟩
  | .hbm, ⟨57, _⟩ => ⟨S3072x28672, .f32⟩
  | .hbm, ⟨58, _⟩ => ⟨S3072x14336, .f32⟩
  | .hbm, ⟨59, _⟩ => ⟨S_, .f32⟩
  | .hbm, ⟨60, _⟩ => ⟨S3072x14336, .f32⟩
  | .hbm, ⟨61, _⟩ => ⟨S3072x14336, .f32⟩
  | .hbm, ⟨62, _⟩ => ⟨S3072x14336, .f32⟩
  | .hbm, ⟨63, _⟩ => ⟨S_, .f32⟩
  | .hbm, ⟨64, _⟩ => ⟨S3072x14336, .f32⟩
  | .hbm, ⟨65, _⟩ => ⟨S3072x14336, .f32⟩
  | .hbm, ⟨66, _⟩ => ⟨S3072x14336, .f32⟩
  | .hbm, ⟨67, _⟩ => ⟨S3072x14336, .f32⟩
  | .hbm, ⟨68, _⟩ => ⟨S3072x14336, .f32⟩
  | .hbm, ⟨69, _⟩ => ⟨S3072x14336, .f32⟩
  | .hbm, ⟨70, _⟩ => ⟨S3072x14336, .f32⟩
  | .hbm, ⟨71, _⟩ => ⟨S3072x112x128, .f32⟩
  | .hbm, ⟨72, _⟩ => ⟨S_, .f32⟩
  | .hbm, ⟨73, _⟩ => ⟨S3072x128, .f32⟩
  | _, _ => ⟨S3072x3584, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_v5 : Ref sig .tc := ⟨.hbm, 14, rfl⟩
abbrev main_v6 : Ref sig .tc := ⟨.hbm, 15, rfl⟩
abbrev main_c_2 : Ref sig .tc := ⟨.hbm, 16, rfl⟩
abbrev main_v7 : Ref sig .tc := ⟨.hbm, 17, rfl⟩
abbrev main_v8 : Ref sig .tc := ⟨.hbm, 18, rfl⟩
abbrev main_c_3 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_4 : Ref sig .tc := ⟨.hbm, 23, rfl⟩
abbrev main_v12 : Ref sig .tc := ⟨.hbm, 24, rfl⟩
abbrev main_v13 : Ref sig .tc := ⟨.hbm, 25, rfl⟩
abbrev main_c_5 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_6 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_7 : Ref sig .tc := ⟨.hbm, 72, rfl⟩
abbrev main_v57 : Ref sig .tc := ⟨.hbm, 73, rfl⟩

abbrev nD : Nat := 1
abbrev τ : Topo := Topo.v7x

variable {F : FTy → Type} [FloatOps F]
-- ==== Proof.Quant.lean ====
/-
  QUANTISING TO EIGHT BITS. A quantiser divides a value by its row's scale, rounds it to the nearest integer and clips it to
  [-127, 127]. The kernels clip first and round afterwards, and convert to eight bits at once; the references round first, clip
  afterwards, and convert by way of 32 bits. This module proves that the two orders give the same code, for every extended real,
  and that the code read back as a number is the rounded clipped value.
-/
module

public import Idealize.ShloMosaic.Lib.Pointwise

@[expose] public section

noncomputable section

namespace Cert.Proof.Quant

open Idealize.ShloMosaic

/-- Rounding to the nearest integer fixes the integers. -/
theorem round_int (z : ℤ) : Ideal.roundHalfEven (z : ℝ) = z := by
  simp [Ideal.roundHalfEven]

/-- Rounding to the nearest integer respects the order. -/
theorem round_mono {a b : ℝ} (h : a ≤ b) : Ideal.roundHalfEven a ≤ Ideal.roundHalfEven b := by
  have hf : ⌊a⌋ ≤ ⌊b⌋ := Int.floor_mono h
  have key : ∀ r : ℝ, Ideal.roundHalfEven r = ⌊r⌋ ∨ Ideal.roundHalfEven r = ⌊r⌋ + 1 := by
    intro r
    simp only [Ideal.roundHalfEven]
    split_ifs <;> simp
  rcases lt_or_eq_of_le hf with hlt | heq
  · rcases key a with ha | ha <;> rcases key b with hb | hb <;> omega
  · simp only [Ideal.roundHalfEven, heq]
    have : a - (⌊b⌋ : ℝ) ≤ b - ⌊b⌋ := by linarith
    split_ifs <;> first | omega | (exfalso; linarith)

/-- The clipped value of a real number: clip to [-127, 127]. -/
def clip (z : ℝ) : ℝ := min 127 (max (-127) z)

theorem round_clip (z : ℝ) : (Ideal.roundHalfEven (clip z) : ℤ) = min 127 (max (-127) (Ideal.roundHalfEven z)) := by
  unfold clip
  have m : Monotone Ideal.roundHalfEven := fun _ _ h => round_mono h
  rw [m.map_min, m.map_max]
  have h1 := round_int 127
  have h2 := round_int (-127)
  push_cast at h1 h2
  rw [h1, h2]

/-- Two literals as extended reals, in the order of the clip. -/
theorem clip_coe (z : ℝ) :
    min ((((127#32 : BitVec 32).toInt : ℤ) : ℝ) : EReal) (max ((((4294967169#32 : BitVec 32).toInt : ℤ) : ℝ) : EReal) (z : EReal))
      = ((clip z : ℝ) : EReal) := by
  have h1 : (((127#32 : BitVec 32).toInt : ℤ) : ℝ) = 127 := by norm_num [show (127#32 : BitVec 32).toInt = 127 by decide]
  have h2 : (((4294967169#32 : BitVec 32).toInt : ℤ) : ℝ) = -127 := by norm_num [show (4294967169#32 : BitVec 32).toInt = -127 by decide]
  rw [h1, h2]
  have m : Monotone ((↑) : ℝ → EReal) := EReal.coe_strictMono.monotone
  unfold clip
  rw [m.map_min, m.map_max]

/-- A clip of an extended real is the clip of a real number. -/
theorem exists_clip (z : EReal) : ∃ r : ℝ,
    min ((((127#32 : BitVec 32).toInt : ℤ) : ℝ) : EReal) (max ((((4294967169#32 : BitVec 32).toInt : ℤ) : ℝ) : EReal) z) = ((clip r : ℝ) : EReal)
    ∧ min ((((127#32 : BitVec 32).toInt : ℤ) : ℝ) : EReal)
        (max ((((4294967169#32 : BitVec 32).toInt : ℤ) : ℝ) : EReal) (Ideal.liftRound Ideal.roundHalfEven z))
      = ((clip (Ideal.roundHalfEven r : ℝ) : ℝ) : EReal) := by
  induction z with
  | bot =>
    refine ⟨-127, ?_, ?_⟩
    · rw [← clip_coe]
      have h2 : (((4294967169#32 : BitVec 32).toInt : ℤ) : ℝ) = -127 := by norm_num [show (4294967169#32 : BitVec 32).toInt = -127 by decide]
      rw [h2]; simp
    · have h := round_int (-127)
      push_cast at h
      rw [h, ← clip_coe, Ideal.liftRound_bot]
      have h2 : (((4294967169#32 : BitVec 32).toInt : ℤ) : ℝ) = -127 := by norm_num [show (4294967169#32 : BitVec 32).toInt = -127 by decide]
      rw [h2]; simp
  | top =>
    refine ⟨127, ?_, ?_⟩
    · rw [← clip_coe]
      have h1 : (((127#32 : BitVec 32).toInt : ℤ) : ℝ) = 127 := by norm_num [show (127#32 : BitVec 32).toInt = 127 by decide]
      rw [h1]; simp
    · have h := round_int 127
      push_cast at h
      rw [h, ← clip_coe, Ideal.liftRound_top]
      have h1 : (((127#32 : BitVec 32).toInt : ℤ) : ℝ) = 127 := by norm_num [show (127#32 : BitVec 32).toInt = 127 by decide]
      rw [h1]; simp
  | coe r => exact ⟨r, clip_coe r, by rw [Ideal.liftRound_coe, clip_coe]⟩

/-- The rounded clipped value of a real number is an integer between -127 and 127. -/
theorem clip_round (r : ℝ) : clip (Ideal.roundHalfEven r : ℝ) = ((Ideal.roundHalfEven (clip r) : ℤ) : ℝ) := by
  rw [round_clip]
  unfold clip
  push_cast
  rfl

theorem round_clip_bounds (r : ℝ) : -127 ≤ Ideal.roundHalfEven (clip r) ∧ Ideal.roundHalfEven (clip r) ≤ 127 := by
  rw [round_clip]
  omega

/-- Converting an integer of that range gives its word. -/
theorem fptosi_int (w : Nat) (z : ℤ) (h : -(2 ^ (w - 1) : Nat) ≤ z) (h' : z ≤ ((2 ^ (w - 1) : Nat) : ℤ) - 1) :
    Ideal.fptosi w ((z : ℝ) : EReal) = BitVec.ofInt w z := by
  unfold Ideal.fptosi Ideal.toIntClamped
  have e : (if (0 : ℝ) ≤ (z : ℝ) then ⌊(z : ℝ)⌋ else ⌈(z : ℝ)⌉) = z := by split_ifs <;> simp
  show BitVec.ofInt w (max _ (min _ (if (0 : ℝ) ≤ (z : ℝ) then ⌊(z : ℝ)⌋ else ⌈(z : ℝ)⌉))) = _
  rw [e, min_eq_right h', max_eq_right h]

/-- THE TWO ORDERS AGREE: clip, round and convert to eight bits; or round, clip, convert to 32 bits and keep the low eight. -/
theorem code_eq (z : EReal) :
    Ideal.fptosi 8 (Ideal.liftRound Ideal.roundHalfEven
        (min ((((127#32 : BitVec 32).toInt : ℤ) : ℝ) : EReal) (max ((((4294967169#32 : BitVec 32).toInt : ℤ) : ℝ) : EReal) z)))
      = (Ideal.fptosi 32 (min ((((127#32 : BitVec 32).toInt : ℤ) : ℝ) : EReal)
          (max ((((4294967169#32 : BitVec 32).toInt : ℤ) : ℝ) : EReal) (Ideal.liftRound Ideal.roundHalfEven z)))).setWidth 8 := by
  obtain ⟨r, h1, h2⟩ := exists_clip z
  rw [h1, h2, Ideal.liftRound_coe, clip_round]
  obtain ⟨hl, hu⟩ := round_clip_bounds r
  rw [fptosi_int 8 _ (by norm_num; omega) (by norm_num; omega), fptosi_int 32 _ (by norm_num; omega) (by norm_num; omega)]
  generalize Ideal.roundHalfEven (clip r) = z at *
  have : ∀ n : Fin 255, BitVec.ofInt 8 ((n.val : ℤ) - 127) = (BitVec.ofInt 32 ((n.val : ℤ) - 127)).setWidth 8 := by decide +kernel
  have h := this ⟨(z + 127).toNat, by omega⟩
  have e : (((z + 127).toNat : ℤ) - 127) = z := by omega
  simpa only [e] using h

/-- The code read back as a number is the rounded clipped value. -/
theorem code_toInt (z : EReal) :
    ((((Ideal.fptosi 8 (Ideal.liftRound Ideal.roundHalfEven
        (min ((((127#32 : BitVec 32).toInt : ℤ) : ℝ) : EReal) (max ((((4294967169#32 : BitVec 32).toInt : ℤ) : ℝ) : EReal) z)))).toInt : ℤ) : ℝ) : EReal)
      = Ideal.liftRound Ideal.roundHalfEven
        (min ((((127#32 : BitVec 32).toInt : ℤ) : ℝ) : EReal) (max ((((4294967169#32 : BitVec 32).toInt : ℤ) : ℝ) : EReal) z)) := by
  obtain ⟨r, h1, -⟩ := exists_clip z
  rw [h1, Ideal.liftRound_coe]
  obtain ⟨hl, hu⟩ := round_clip_bounds r
  rw [fptosi_int 8 _ (by norm_num; omega) (by norm_num; omega)]
  generalize Ideal.roundHalfEven (clip r) = z at *
  have : ∀ n : Fin 255, (BitVec.ofInt 8 ((n.val : ℤ) - 127)).toInt = (n.val : ℤ) - 127 := by decide +kernel
  have h := this ⟨(z + 127).toNat, by omega⟩
  have e : (((z + 127).toNat : ℤ) - 127) = z := by omega
  simp only [e] at h
  rw [h]

/-- The code of a value at a scale. -/
def code (v s : EReal) : BitVec 8 :=
  Ideal.fptosi 8 (Ideal.liftRound Ideal.roundHalfEven
    (min ((((127#32 : BitVec 32).toInt : ℤ) : ℝ) : EReal) (max ((((4294967169#32 : BitVec 32).toInt : ℤ) : ℝ) : EReal) (Ideal.div v s))))

/-- The scale of a row whose largest magnitude is `a`: one 127th of it, or one if it is zero. -/
def scale (a : EReal) : EReal := if a = 0 then 1 else Ideal.div a (Ideal.ofBits .f32 0x42FE0000#32)

/-- The largest magnitude of a row. -/
def absMax {n : Nat} (f : Fin n → EReal) : EReal :=
  Finset.fold max (Ideal.ofBits .f32 0xFF800000#32) (fun x => FloatOps.absf (F := Ideal) (φ := .f32) (f x)) Finset.univ

/-- The scale of a row. -/
def rowScale {n : Nat} (f : Fin n → EReal) : EReal := scale (absMax f)

/-- The code of a row's entry at the row's own scale. -/
def rowCode {n : Nat} (f : Fin n → EReal) (l : Fin n) : BitVec 8 := code (f l) (rowScale f)

/-- One entry of a row divided by the root of its mean square (the mean over `d`, plus the small constant) and multiplied by the
    gain. -/
def normed {n : Nat} (d : BitVec 32) (x g : Fin n → EReal) (l : Fin n) : EReal :=
  Ideal.div (x l) (Ideal.sqrt (Ideal.div (∑ k, x k * x k) (Ideal.ofBits .f32 d) + Ideal.ofBits .f32 0x3727C5AC#32)) * g l

/-- The reference's code: round, clip, convert to 32 bits, keep the low eight. -/
theorem reference_code (v s : EReal) :
    (FloatOps.fptosi (F := Ideal) (φ := .f32) 32 (FloatOps.minimumf (F := Ideal) (φ := .f32) (FloatOps.sitofp (F := Ideal) .f32 127#32)
      (FloatOps.maximumf (F := Ideal) (φ := .f32) (FloatOps.sitofp (F := Ideal) .f32 4294967169#32)
        (FloatOps.hostUnary (F := Ideal) (φ := .f32) .roundeven (FloatOps.hostDivf (F := Ideal) (φ := .f32) v s))))).setWidth 8 = code v s :=
  (code_eq (Ideal.div v s)).symm

/-- A comparison with zero selects as a condition on equality does. -/
theorem reference_scale (a : EReal) :
    Scalar.select (FloatOps.cmpf (F := Ideal) (φ := .f32) .oeq a (Ideal.ofBits .f32 0x00000000#32)) (Ideal.ofBits .f32 0x3F800000#32 : EReal)
      (FloatOps.hostDivf (F := Ideal) (φ := .f32) a (Ideal.ofBits .f32 0x42FE0000#32)) = scale a := by
  rw [Ideal.ofBits_zero_f32, Ideal.ofBits_one_f32]
  unfold scale
  by_cases h : a = 0
  · subst h; simp [Scalar.select, Ideal.cmpf_def, Ideal.cmp]
  · simp [Scalar.select, Ideal.cmpf_def, Ideal.cmp, h]

/-- The kernels' scale of a row of maxima, entry by entry. -/
theorem scale_vec {s : Shape} (a : FVec Ideal s .f32) (i : s.Idx) :
    select (cmpf .oeq a (broadcast s (Scalar.ofBits (F := Ideal) .f32 0x00000000#32))) (broadcast s (Scalar.ofBits (F := Ideal) .f32 0x3F800000#32))
      (divf a (broadcast s (Scalar.ofBits (F := Ideal) .f32 0x42FE0000#32))) i = scale (a i) :=
  reference_scale (a i)

/-- The kernels' codes, entry by entry. -/
theorem code_vec {s : Shape} (v d : FVec Ideal s .f32) (i : s.Idx) :
    fptosi 8 (roundeven (minimumf (broadcast s (Scalar.sitofp (F := Ideal) .f32 127#32))
      (maximumf (broadcast s (Scalar.sitofp (F := Ideal) .f32 4294967169#32)) (divf v d)))) i = code (v i) (d i) := rfl

/-- The larger of the maxima of two halves is the maximum of the whole. -/
theorem absMax_halves {n k : Nat} (h : n = k + k) (f : Fin n → EReal) :
    max (absMax fun l : Fin k => f ⟨l.val, by omega⟩) (absMax fun l : Fin k => f ⟨k + l.val, by omega⟩) = absMax f := by
  have key : ∀ {m : Nat} (g : Fin m → EReal) (z : EReal), absMax g ≤ z
      ↔ Ideal.ofBits .f32 0xFF800000#32 ≤ z ∧ ∀ l, FloatOps.absf (F := Ideal) (φ := .f32) (g l) ≤ z := by
    intro m g z
    unfold absMax
    rw [Finset.fold_op_rel_iff_and (op := max) (r := fun a b => b ≤ a) (fun {x y z} => by simp)]
    simp
  refine eq_of_forall_ge_iff fun z => ?_
  rw [max_le_iff, key, key, key]
  constructor
  · rintro ⟨⟨hb, h1⟩, -, h2⟩
    refine ⟨hb, fun l => ?_⟩
    by_cases hl : l.val < k
    · exact h1 ⟨l.val, hl⟩
    · have := h2 ⟨l.val - k, by omega⟩
      have e : (⟨k + (l.val - k), by omega⟩ : Fin n) = l := Fin.ext (by show k + (l.val - k) = l.val; omega)
      rwa [e] at this
  · rintro ⟨hb, h⟩
    exact ⟨⟨hb, fun l => h _⟩, hb, fun l => h _⟩

end Cert.Proof.Quant

end
-- ==== Proof.NormInBlock.lean ====
/-
  WHAT ONE GRID POINT OF THE FIRST NORM WRITES, as a formula in the blocks it reads: two hundred and fifty-six rows, each of two halves
  from two arrays, divided by the root of their mean square, their eight-bit codes and scales, and their three low-rank products.
-/
module

public import proofs.«01_k».proof.Proof.Quant
public import proofs.«01_k».proof.Proof.Gen.NormInIdeal.Frame
public import Idealize.ShloMosaic.Lib.Pipeline.ValueKit

@[expose] public section

set_option maxRecDepth 16384

noncomputable section

namespace Cert.Proof.NormInBlock

open Idealize.ShloMosaic Idealize.ShloMosaic.TcCoe Idealize.SL.Sem
open Cert.NormInIdeal Cert.NormInIdeal.Gen Cert.Proof.Quant

/-- Row `p`: its first half from the first block, its second half from the second. -/
def row (u v : Vec Ideal S256x3584 .bf16) (p : Fin 256) (l : Fin 7168) : EReal :=
  if h : l.val < 3584 then u (ix2 p ⟨l.val, h⟩) else v (ix2 p ⟨l.val - 3584, by omega⟩)

theorem row_low (u v : Vec Ideal S256x3584 .bf16) (p : Fin 256) (k : Fin 3584) : row u v p ⟨k.val, by omega⟩ = u (ix2 p k) :=
  dif_pos k.isLt

theorem row_high (u v : Vec Ideal S256x3584 .bf16) (p : Fin 256) (k : Fin 3584) : row u v p ⟨3584 + k.val, by omega⟩ = v (ix2 p k) := by
  refine (dif_neg (by show ¬ 3584 + k.val < 3584; omega)).trans (congrArg (fun l => v (ix2 p l)) (Fin.ext ?_))
  show 3584 + k.val - 3584 = k.val
  omega

/-- Row `p`, normed. -/
def f (u v : Vec Ideal S256x3584 .bf16) (w : Vec Ideal S1x7168 .f32) (p : Fin 256) : Fin 7168 → EReal :=
  normed 0x45E00000#32 (row u v p) fun l => w (ix2 0 l)

theorem square_sum (u v : Vec Ideal S256x3584 .bf16) (p : Fin 256) :
    (∑ k, row u v p k * row u v p k) = ∑ k : Fin 3584, u (ix2 p k) * u (ix2 p k) + ∑ k : Fin 3584, v (ix2 p k) * v (ix2 p k) := by
  rw [Fin.sum_univ_two_halves 3584 3584 rfl (fun k => row u v p k * row u v p k)]
  exact congrArg₂ (· + ·) (Finset.sum_congr rfl fun k _ => by rw [row_low]) (Finset.sum_congr rfl fun k _ => by rw [row_high])

theorem low_apply (u v : Vec Ideal S256x3584 .bf16) (w : Vec Ideal S1x7168 .f32) (p : Fin 256) (l : Fin 3584) :
    k0_pay8 (F := Ideal) (View.ld u r0_0) (View.ld v r0_0) (View.ld w r0_1) (ix2 p l) = f u v w p ⟨l.val, by omega⟩ := by
  pointwise [k0_pay8, k0_pay7, k0_pay6, k0_pay5]
  unfold f normed
  rw [square_sum, row_low]

theorem high_apply (u v : Vec Ideal S256x3584 .bf16) (w : Vec Ideal S1x7168 .f32) (p : Fin 256) (l : Fin 3584) :
    k0_pay9 (F := Ideal) (View.ld u r0_0) (View.ld v r0_0) (View.ld w r0_2) (ix2 p l) = f u v w p ⟨3584 + l.val, by omega⟩ := by
  pointwise [k0_pay9, k0_pay7, k0_pay6, k0_pay5]
  unfold f normed
  rw [square_sum, row_high]

/-- The maximum of a row's magnitudes. -/
theorem max_apply (y : FVec Ideal S256x3584 .f32) (p : Fin 256) (z : Fin 1) :
    shapeCast S256x1 (multiReduction (F := Ideal) .maximumf [1] S256 (absf y) 0xFF800000#32 reduces_S256x3584_S256 (.inl rfl) rfl)
      shapeCasts_S256_S256x1 (ix2 p z) = absMax fun l => y (ix2 p l) := by
  pointwise []
  rfl

theorem rep_row (y : FVec Ideal S256x1 .f32) (p : Fin 256) (l : Fin 3584) :
    broadcastTo S256x3584 y broadcasts_S256x1_S256x3584 (ix2 p l) = y (ix2 p 0) := by pointwise []

theorem row_apply (a : IVec S256x1 1) (b d : FVec Ideal S256x1 .f32) (x y : Fin 1) (p : Fin 256) :
    k0_pay18 (F := Ideal) a b d (ix3 x y p) = k0_pay14 (F := Ideal) a b d (ix2 p 0) := by
  pointwise [k0_pay18]

theorem rep_apply (a : IVec S256x1 1) (b d : FVec Ideal S256x1 .f32) (p : Fin 256) (l : Fin 128) :
    k0_pay17 (F := Ideal) a b d (ix2 p l) = k0_pay14 (F := Ideal) a b d (ix2 p 0) := by
  pointwise [k0_pay17]

section Blocks
variable (u v : Vec Ideal S256x3584 .bf16) (w : Vec Ideal S1x7168 .f32) (q : Vec Ideal S3x7168x128 .bf16) (p : Fin 256)

theorem scale_eq (z : Fin 1) :
    k0_pay14 (F := Ideal) (k0_pay23 u v w q) (k0_pay24 u v w q) (k0_pay25 u v w q) (ix2 p z) = rowScale (f u v w p) := by
  refine (scale_vec _ (ix2 p z)).trans (congrArg scale ?_)
  refine (congrArg₂ max (max_apply _ p z) (max_apply _ p z)).trans ?_
  rw [funext fun l => low_apply u v w p l, funext fun l => high_apply u v w p l]
  exact absMax_halves (n := 7168) (k := 3584) rfl (f u v w p)

theorem codes_low (l : Fin 3584) :
    k0_pay15 (F := Ideal) (k0_pay21 u v w q) (k0_pay23 u v w q) (k0_pay24 u v w q) (k0_pay25 u v w q) (ix2 p l)
      = rowCode (f u v w p) ⟨l.val, by omega⟩ :=
  (code_vec _ _ (ix2 p l)).trans (congrArg₂ code (low_apply u v w p l) ((rep_row _ p l).trans (scale_eq u v w q p 0)))

theorem codes_high (l : Fin 3584) :
    k0_pay16 (F := Ideal) (k0_pay22 u v w q) (k0_pay23 u v w q) (k0_pay24 u v w q) (k0_pay25 u v w q) (ix2 p l)
      = rowCode (f u v w p) ⟨3584 + l.val, by omega⟩ :=
  (code_vec _ _ (ix2 p l)).trans (congrArg₂ code (high_apply u v w p l) ((rep_row _ p l).trans (scale_eq u v w q p 0)))

/-- The block of codes. -/
theorem codes_block (l : Fin 7168) : out0_4 (F := Ideal) u v w q (ix2 p l) = rowCode (f u v w p) l := by
  unfold out0_4
  canon_tiles x h
  · idx_vars x
    obtain rfl := Fin.ext h0
    exact (codes_high _ _ _ _ _ _).trans (congrArg (rowCode _) (Fin.ext h1.symm))
  · idx_vars x
    obtain rfl := Fin.ext h0
    exact (codes_low _ _ _ _ _ _).trans (congrArg (rowCode _) (Fin.ext h1.symm))

/-- The block of scales, one a row. -/
theorem row_block (a b : Fin 1) : out0_5 (F := Ideal) u v w q (ix3 a b p) = rowScale (f u v w p) := by
  unfold out0_5
  canon_tiles x h
  idx_vars x
  obtain rfl := Fin.ext h2
  exact (row_apply _ _ _ _ _ _).trans (scale_eq u v w q p 0)

/-- The block of scales, each repeated along the lanes. -/
theorem rep_block (l : Fin 128) : out0_6 (F := Ideal) u v w q (ix2 p l) = rowScale (f u v w p) := by
  unfold out0_6
  canon_tiles x h
  idx_vars x
  obtain rfl := Fin.ext h0
  exact (rep_apply _ _ _ _ _).trans (scale_eq u v w q p 0)

end Blocks

/-- One plane of the low-rank product, over the two halves of the rows. -/
theorem plane0_apply (a b : FVec Ideal S256x3584 .f32) (r s : FVec Ideal S7168x128 .bf16) (t : Vec Ideal S1x7168x128 .bf16) (z : Fin 1) (p : Fin 256)
    (l : Fin 128) : k0_pay2 (F := Ideal) a b r s t (ix3 z p l)
      = ∑ k : Fin 3584, a (ix2 p k) * r (ix2 ⟨k.val, by omega⟩ l) + ∑ k : Fin 3584, b (ix2 p k) * r (ix2 ⟨3584 + k.val, by omega⟩ l) := by
  pointwise [k0_pay2, k0_pay1]

theorem plane1_apply (a b : FVec Ideal S256x3584 .f32) (r s : FVec Ideal S7168x128 .bf16) (t : Vec Ideal S1x7168x128 .bf16) (z : Fin 1) (p : Fin 256)
    (l : Fin 128) : k0_pay3 (F := Ideal) a b r s t (ix3 z p l)
      = ∑ k : Fin 3584, a (ix2 p k) * s (ix2 ⟨k.val, by omega⟩ l) + ∑ k : Fin 3584, b (ix2 p k) * s (ix2 ⟨3584 + k.val, by omega⟩ l) := by
  pointwise [k0_pay3, k0_pay1]

theorem plane2_apply (a b : FVec Ideal S256x3584 .f32) (r s : FVec Ideal S7168x128 .bf16) (t : Vec Ideal S1x7168x128 .bf16) (z : Fin 1) (p : Fin 256)
    (l : Fin 128) : k0_pay4 (F := Ideal) a b r s t (ix3 z p l)
      = ∑ k : Fin 3584, a (ix2 p k) * t (ix3 0 ⟨k.val, by omega⟩ l) + ∑ k : Fin 3584, b (ix2 p k) * t (ix3 0 ⟨3584 + k.val, by omega⟩ l) := by
  pointwise [k0_pay4, k0_pay1]
  have h1 : ¬ 256 + l.val < 128 := by omega
  have h2 : ¬ 256 + l.val - 128 < 128 := by omega
  simp only [dif_neg h1, dif_neg h2]
  have e : ∀ h, (⟨256 + l.val - 128 - 128, h⟩ : Fin 128) = l := fun h => Fin.ext (by show 256 + l.val - 128 - 128 = l.val; omega)
  simp only [e]

/-- A sum over a row is the sum over its two halves. -/
theorem halves_sum (g h : Fin 7168 → EReal) (a b : Fin 3584 → EReal) (r s : Fin 3584 → EReal) (ha : ∀ k, a k = g ⟨k.val, by omega⟩)
    (hb : ∀ k, b k = g ⟨3584 + k.val, by omega⟩) (hr : ∀ k, r k = h ⟨k.val, by omega⟩) (hs : ∀ k, s k = h ⟨3584 + k.val, by omega⟩) :
    ∑ k, a k * r k + ∑ k, b k * s k = ∑ k, g k * h k := by
  rw [Fin.sum_univ_two_halves 3584 3584 rfl (fun k => g k * h k)]
  exact congrArg₂ (· + ·) (Finset.sum_congr rfl fun k _ => congrArg₂ (· * ·) (ha k) (hr k))
    (Finset.sum_congr rfl fun k _ => congrArg₂ (· * ·) (hb k) (hs k))

theorem ld0_apply (q : Vec Ideal S3x7168x128 .bf16) (k : Fin 7168) (l : Fin 128) :
    k0_pay19 (F := Ideal) (View.ld q r0_7) (ix2 k l) = q (ix3 0 k l) := by pointwise [k0_pay19]

theorem ld1_apply (q : Vec Ideal S3x7168x128 .bf16) (k : Fin 7168) (l : Fin 128) :
    k0_pay20 (F := Ideal) (View.ld q r0_8) (ix2 k l) = q (ix3 1 k l) := by pointwise [k0_pay20]

theorem ld2_apply (q : Vec Ideal S3x7168x128 .bf16) (k : Fin 7168) (l : Fin 128) :
    View.ld q r0_9 (ix3 0 k l) = q (ix3 2 k l) := by pointwise []

/-- The block of the low-rank products. -/
theorem low_rank_block (u v : Vec Ideal S256x3584 .bf16) (w : Vec Ideal S1x7168 .f32) (q : Vec Ideal S3x7168x128 .bf16) (j : Fin 3) (p : Fin 256)
    (l : Fin 128) : out0_7 (F := Ideal) u v w q (ix3 j p l) = ∑ k : Fin 7168, f u v w p k * q (ix3 j k l) := by
  unfold out0_7
  canon_tiles x h
  · idx_vars x
    obtain rfl := Fin.ext h1
    obtain rfl := Fin.ext h2
    obtain rfl : j = 2 := Fin.ext (by show j.val = 2; omega)
    exact (plane2_apply _ _ _ _ _ _ _ _).trans (halves_sum (f u v w _) (fun k => q (ix3 2 k _)) _ _ _ _ (fun k => low_apply u v w _ k)
      (fun k => high_apply u v w _ k) (fun k => ld2_apply q _ _) (fun k => ld2_apply q _ _))
  · idx_vars x
    obtain rfl := Fin.ext h1
    obtain rfl := Fin.ext h2
    obtain rfl : j = 1 := Fin.ext (by show j.val = 1; omega)
    exact (plane1_apply _ _ _ _ _ _ _ _).trans (halves_sum (f u v w _) (fun k => q (ix3 1 k _)) _ _ _ _ (fun k => low_apply u v w _ k)
      (fun k => high_apply u v w _ k) (fun k => ld1_apply q _ _) (fun k => ld1_apply q _ _))
  · idx_vars x
    obtain rfl := Fin.ext h1
    obtain rfl := Fin.ext h2
    obtain rfl : j = 0 := Fin.ext (by show j.val = 0; omega)
    exact (plane0_apply _ _ _ _ _ _ _ _).trans (halves_sum (f u v w _) (fun k => q (ix3 0 k _)) _ _ _ _ (fun k => low_apply u v w _ k)
      (fun k => high_apply u v w _ k) (fun k => ld0_apply q _ _) (fun k => ld0_apply q _ _))

end Cert.Proof.NormInBlock
end
-- ==== Proof.NormInReference.lean ====
/-
  WHAT THE REFERENCE OF THE FIRST NORM COMPUTES, entry by entry.
-/
module

public import proofs.«01_k».proof.Proof.Quant
public import proofs.«01_k».proof.Proof.Gen.NormInReferenceIdeal.Read
public import Idealize.ShloMosaic.Lib.Pointwise

@[expose] public section

set_option maxRecDepth 16384

noncomputable section

namespace Cert.Proof.NormInReference

open Idealize.ShloMosaic Idealize.ShloMosaic.TcCoe Idealize.SL.Sem
open Cert.NormInReferenceIdeal Cert.NormInReferenceIdeal.Gen Cert.NormInReferenceIdeal.Read Cert.Proof.Quant

variable (x0 x1 : FVec Ideal S12x256x3584 .bf16) (x2 : FVec Ideal S7168 .f32) (x3 : FVec Ideal S7168x3x128 .bf16)

/-- Row `p`: its first half from the first array, its second half from the second. -/
def row (p : Fin 3072) (l : Fin 7168) : EReal :=
  if h : l.val < 3584 then x0 (ix3 ⟨p.val / 256, by omega⟩ ⟨p.val % 256, Nat.mod_lt _ (by decide)⟩ ⟨l.val, h⟩)
  else x1 (ix3 ⟨p.val / 256, by omega⟩ ⟨p.val % 256, Nat.mod_lt _ (by decide)⟩ ⟨l.val - 3584, by omega⟩)

/-- Row `p`, normed. -/
def f (p : Fin 3072) : Fin 7168 → EReal := normed 0x45E00000#32 (row x0 x1 p) fun l => x2 (ix1 l)

theorem row_apply (p : Fin 3072) (l : Fin 7168) : val_main_v2 (F := Ideal) x0 x1 (ix2 p l) = row x0 x1 p l := by
  pointwise [val_main_v2, val_main_v1, val_main_v0]
  rfl

theorem f_apply (p : Fin 3072) (l : Fin 7168) : val_main_v15 (F := Ideal) x0 x1 x2 (ix2 p l) = f x0 x1 x2 p l := by
  pointwise [val_main_v15, val_main_v14, val_main_v13, val_main_v12, val_main_v11, val_main_v10, val_main_v9, val_main_v8, val_main_v7, val_main_v6,
    val_main_v5, val_main_v4, val_main_v3, val_main_cst, val_main_cst_0, val_main_cst_1]
  simp only [row_apply]
  rfl

theorem max_apply (p : Fin 3072) : val_main_v17 (F := Ideal) x0 x1 x2 (ix1 p) = absMax (f x0 x1 x2 p) := by
  have e : val_main_v17 (F := Ideal) x0 x1 x2 (ix1 p) = Finset.fold max (Ideal.ofBits .f32 0xFF800000#32)
      (fun l : Fin 7168 => val_main_v16 (F := Ideal) x0 x1 x2 (ix2 p l)) Finset.univ := by
    pointwise [val_main_v17, val_main_cst_2]
  rw [e, ← funext fun l => f_apply x0 x1 x2 p l]
  rfl

theorem scale_apply (p : Fin 3072) : val_main_v22 (F := Ideal) x0 x1 x2 (ix1 p) = rowScale (f x0 x1 x2 p) := by
  rw [val_main_v22_apply, val_main_v19_apply, val_main_v21_apply, max_apply, val_main_v18_apply, val_main_v20_apply,
    val_main_call0_v1_apply, val_main_call0_v0_apply, val_main_cst_3_apply, val_main_cst_4_apply, val_main_cst_5_apply]
  exact reference_scale _

/-- The codes. -/
theorem code_apply (p : Fin 3072) (l : Fin 7168) : val_main_v29 (F := Ideal) x0 x1 x2 (ix2 p l) = rowCode (f x0 x1 x2 p) l := by
  have e : val_main_v24 (F := Ideal) x0 x1 x2 (ix2 p l) = rowScale (f x0 x1 x2 p) := by
    pointwise [val_main_v24, val_main_v23]
    exact scale_apply x0 x1 x2 p
  rw [val_main_v29_apply, val_main_v28_apply, val_main_v27_apply, val_main_call2_v2_apply, val_main_v26_apply, val_main_v25_apply, e, f_apply,
    val_main_call2_v4_apply, val_main_call2_v3_apply, val_main_call2_v1_apply, val_main_call2_v0_apply, val_main_c_apply, val_main_c_6_apply]
  exact reference_code _ _

/-- The scales, by tiles of rows. -/
theorem row_scale_apply (i : Fin 12) (a : Fin 1) (p : Fin 256) :
    val_main_v34 (F := Ideal) x0 x1 x2 (ix3 i a p) = rowScale (f x0 x1 x2 ⟨i.val * 256 + p.val, by omega⟩) := by
  pointwise [val_main_v34]
  exact scale_apply x0 x1 x2 _

/-- The scales, repeated along the lanes. -/
theorem rep_apply (p : Fin 3072) (l : Fin 128) : val_main_v36 (F := Ideal) x0 x1 x2 (ix2 p l) = rowScale (f x0 x1 x2 p) := by
  pointwise [val_main_v36, val_main_v35]
  exact scale_apply x0 x1 x2 p

/-- The low-rank product. -/
theorem low_rank_apply (j : Fin 3) (p : Fin 3072) (l : Fin 128) :
    val_main_v33 (F := Ideal) x0 x1 x2 x3 (ix3 j p l) = ∑ k : Fin 7168, x3 (ix3 k j l) * f x0 x1 x2 p k := by
  pointwise [val_main_v33, val_main_v32, val_main_v31, val_main_v30]
  simp only [f_apply]

end Cert.Proof.NormInReference
end
-- ==== Proof.NormInValue.lean ====
/-
  THE EQUATION for the first norm: the four arrays the kernel leaves (codes, scales in two layouts, low-rank products) are the
  reference's terms over the same arguments.
-/
module

public import proofs.«01_k».proof.Proof.NormInBlock
public import proofs.«01_k».proof.Proof.NormInReference
public import proofs.«01_k».proof.Proof.Gen.NormInIdeal.Value
public import Idealize.ShloMosaic.Lib.Claim

@[expose] public section

set_option maxRecDepth 16384

noncomputable section

namespace Cert.Proof.NormInValue

open Idealize.ShloMosaic Idealize.ShloMosaic.TcCoe Idealize.SL.Sem
open Cert.NormInIdeal Cert.NormInIdeal.Gen Cert.Proof.Quant

/-- Where every window's block lies at grid point `t`: rows `256 t`. -/
theorem idx : ∀ t : Fin cfg0.N, win0_0.index t = ![t.val, 0] ∧ win0_1.index t = ![t.val, 0] ∧ win0_2.index t = ![0, 0] ∧ win0_3.index t = ![0, 0, 0]
    ∧ win0_4.index t = ![t.val, 0] ∧ win0_5.index t = ![t.val, 0, 0] ∧ win0_6.index t = ![t.val, 0] ∧ win0_7.index t = ![0, t.val, 0] ∧ t.val < 12 :=
  (by decide +kernel : ∀ t : Fin grid0.N, _)

variable (m : (ℓ : Loc nD τ sig) → Buf (Elt Ideal) ℓ)

/-- The arguments of the run. -/
abbrev A0 (c : Dev nD) := m ((c : Thread nD τ).loc main_arg0)
abbrev A1 (c : Dev nD) := m ((c : Thread nD τ).loc main_arg1)
abbrev A2 (c : Dev nD) := m ((c : Thread nD τ).loc main_arg2)
abbrev A3 (c : Dev nD) := m ((c : Thread nD τ).loc main_arg3)

/-- A normed row of a block is the reference's row `256 t + p`. -/
theorem f_eq (c : Dev nD) (t : Fin cfg0.N) (ht : t.val < 12) (p : Fin 256) :
    NormInBlock.f (iblk m c 0 t) (iblk m c 1 t) (iblk m c 2 t) p = NormInReference.f (A0 m c) (A1 m c) (A2 m c) ⟨t.val * 256 + p.val, by omega⟩ := by
  unfold NormInBlock.f NormInReference.f
  refine congrArg₂ (normed _) (funext fun l => ?_) (funext fun l => ?_)
  · unfold NormInBlock.row NormInReference.row
    by_cases h : l.val < 3584
    · rw [dif_pos h, dif_pos h]
      blk_point [iblk, V, idx t]
    · rw [dif_neg h, dif_neg h]
      blk_point [iblk, V, idx t]
  · blk_point [iblk, V, idx t]

/-- What grid point `t` writes, entry by entry. -/
theorem codes_point (c : Dev nD) (t : Fin cfg0.N) (ht : t.val < 12) (p : Fin 256) (l : Fin 7168) :
    out0_4 (F := Ideal) (iblk m c 0 t) (iblk m c 1 t) (iblk m c 2 t) (iblk m c 3 t) (ix2 p l) = Cert.NormInReferenceIdeal.Read.val_main_v29 (F := Ideal) (A0 m c) (A1 m c) (A2 m c) (ix2 ⟨t.val * 256 + p.val, by omega⟩ l) :=
  (NormInBlock.codes_block _ _ _ _ p l).trans ((congrArg (fun g => rowCode g l) (f_eq m c t ht p)).trans (NormInReference.code_apply _ _ _ _ _).symm)

theorem rows_point (c : Dev nD) (t : Fin cfg0.N) (ht : t.val < 12) (a b : Fin 1) (p : Fin 256) :
    out0_5 (F := Ideal) (iblk m c 0 t) (iblk m c 1 t) (iblk m c 2 t) (iblk m c 3 t) (ix3 a b p) = Cert.NormInReferenceIdeal.Read.val_main_v34 (F := Ideal) (A0 m c) (A1 m c) (A2 m c) (ix3 ⟨t.val, ht⟩ b p) :=
  (NormInBlock.row_block _ _ _ _ p a b).trans ((congrArg rowScale (f_eq m c t ht p)).trans (NormInReference.row_scale_apply _ _ _ ⟨t.val, ht⟩ b p).symm)

theorem rep_point (c : Dev nD) (t : Fin cfg0.N) (ht : t.val < 12) (p : Fin 256) (l : Fin 128) :
    out0_6 (F := Ideal) (iblk m c 0 t) (iblk m c 1 t) (iblk m c 2 t) (iblk m c 3 t) (ix2 p l) = Cert.NormInReferenceIdeal.Read.val_main_v36 (F := Ideal) (A0 m c) (A1 m c) (A2 m c) (ix2 ⟨t.val * 256 + p.val, by omega⟩ l) :=
  (NormInBlock.rep_block _ _ _ _ p l).trans ((congrArg rowScale (f_eq m c t ht p)).trans (NormInReference.rep_apply _ _ _ _ l).symm)

/-- An entry of a block of the low-rank weights. -/
theorem w_eq (c : Dev nD) (t : Fin cfg0.N) (j : Fin 3) (k : Fin 7168) (l : Fin 128) :
    (iblk m c 3 t : Vec Ideal S3x7168x128 .bf16) (ix3 j k l) = (A3 m c : FVec Ideal S7168x3x128 .bf16) (ix3 k j l) := by
  blk_point [iblk, V, idx t]

theorem low_rank_point (c : Dev nD) (t : Fin cfg0.N) (ht : t.val < 12) (j : Fin 3) (p : Fin 256) (l : Fin 128) :
    out0_7 (F := Ideal) (iblk m c 0 t) (iblk m c 1 t) (iblk m c 2 t) (iblk m c 3 t) (ix3 j p l)
      = Cert.NormInReferenceIdeal.Read.val_main_v33 (F := Ideal) (A0 m c) (A1 m c) (A2 m c) (A3 m c) (ix3 j ⟨t.val * 256 + p.val, by omega⟩ l) := by
  refine (NormInBlock.low_rank_block _ _ _ _ j p l).trans (Eq.trans ?_ (NormInReference.low_rank_apply _ _ _ _ j ⟨t.val * 256 + p.val, by omega⟩ l).symm)
  exact Finset.sum_congr rfl fun k _ => (congrArg₂ (· * ·) (congrFun (f_eq m c t ht p) k) (w_eq m c t j k l)).trans (mul_comm _ _)

/-- The codes after the run. -/
theorem final_codes (c : Dev nD) : (dats m 0 c).arrAt 4 (cfgs 0).N = Cert.NormInReferenceIdeal.Read.val_main_v29 (F := Ideal) (A0 m c) (A1 m c) (A2 m c) := by
  refine (dats m 0 c).arrAt_eq_of_covers 4 _ (by decide +kernel) fun t _ y => ?_
  blk_simp
  rw [after0_4]
  obtain ⟨-, -, -, -, hi, -, -, -, ht⟩ := idx t
  have hy := eq_ix2 (show S256x7168.Idx from y)
  refine (congrArg (out0_4 (iblk m c 0 t) (iblk m c 1 t) (iblk m c 2 t) (iblk m c 3 t)) hy).trans ((codes_point m c t ht _ _ ).trans (congrArg _ ?_))
  blk_ext [hi]

/-- The scales after the run, one a row. -/
theorem final_rows (c : Dev nD) : (dats m 0 c).arrAt 5 (cfgs 0).N = Cert.NormInReferenceIdeal.Read.val_main_v34 (F := Ideal) (A0 m c) (A1 m c) (A2 m c) := by
  refine (dats m 0 c).arrAt_eq_of_covers 5 _ (by decide +kernel) fun t _ y => ?_
  blk_simp
  rw [after0_5]
  obtain ⟨-, -, -, -, -, hi, -, -, ht⟩ := idx t
  have hy := eq_ix3 (show S1x1x256.Idx from y)
  refine (congrArg (out0_5 (iblk m c 0 t) (iblk m c 1 t) (iblk m c 2 t) (iblk m c 3 t)) hy).trans ((rows_point m c t ht _ _ _ ).trans (congrArg _ ?_))
  blk_ext [hi]

/-- The scales after the run, each repeated along the lanes. -/
theorem final_rep (c : Dev nD) : (dats m 0 c).arrAt 6 (cfgs 0).N = Cert.NormInReferenceIdeal.Read.val_main_v36 (F := Ideal) (A0 m c) (A1 m c) (A2 m c) := by
  refine (dats m 0 c).arrAt_eq_of_covers 6 _ (by decide +kernel) fun t _ y => ?_
  blk_simp
  rw [after0_6]
  obtain ⟨-, -, -, -, -, -, hi, -, ht⟩ := idx t
  have hy := eq_ix2 (show S256x128.Idx from y)
  refine (congrArg (out0_6 (iblk m c 0 t) (iblk m c 1 t) (iblk m c 2 t) (iblk m c 3 t)) hy).trans ((rep_point m c t ht _ _ ).trans (congrArg _ ?_))
  blk_ext [hi]

/-- The low-rank products after the run. -/
theorem final_low_rank (c : Dev nD) : (dats m 0 c).arrAt 7 (cfgs 0).N = Cert.NormInReferenceIdeal.Read.val_main_v33 (F := Ideal) (A0 m c) (A1 m c) (A2 m c) (A3 m c) := by
  refine (dats m 0 c).arrAt_eq_of_covers 7 _ (by decide +kernel) fun t _ y => ?_
  blk_simp
  rw [after0_7]
  obtain ⟨-, -, -, -, -, -, -, hi, ht⟩ := idx t
  have hy := eq_ix3 (show S3x256x128.Idx from y)
  refine (congrArg (out0_7 (iblk m c 0 t) (iblk m c 1 t) (iblk m c 2 t) (iblk m c 3 t)) hy).trans ((low_rank_point m c t ht _ _ _ ).trans (congrArg _ ?_))
  blk_ext [hi]

end Cert.Proof.NormInValue
end
-- ==== Proof.NormInClaim.lean ====
/-
  THE CLAIMS ABOUT THE FIRST NORM: the reference's frame and the equation of the results.
-/
module

public import proofs.«01_k».proof.Defs
public import proofs.«01_k».proof.Proof.NormInValue
public import proofs.«01_k».proof.Proof.Gen.NormInReferenceIdeal.Run

@[expose] public section

set_option maxRecDepth 16384

noncomputable section

namespace Cert.Proof.NormInClaim

open Idealize.ShloMosaic Idealize.SL.Sem

/-- The reference ends with its arguments and semaphores as they were. -/
theorem reference_frame : quiescent_NormInReferenceIdeal (hNormInReferenceIdeal := Cert.NormInReferenceIdeal.Gen.facts) := by
  intro m ρ _
  refine (θ_run _ _ _).mono (fun r h => ⟨fun c => (h c).2.2.2.2, funext fun g => ?_⟩) (Cert.NormInReferenceIdeal.Value.run m ρ)
  exact ((by decide : ∀ _ : SemLoc Cert.NormInReferenceIdeal.sig, False) g.2).elim

/-- Kernel and reference leave the same four arrays. -/
theorem equation : algebraic_NormInIdeal_NormInReferenceIdeal (hNormInIdeal := Cert.NormInIdeal.Gen.facts)
    (hNormInReferenceIdeal := Cert.NormInReferenceIdeal.Gen.facts) := by
  intro m g m' g' _ hagree
  refine ⟨fun c => (Cert.NormInIdeal.Gen.dats m 0 c).arrAt 4 Cert.NormInIdeal.cfg0.N,
    fun c => (Cert.NormInIdeal.Gen.dats m 0 c).arrAt 5 Cert.NormInIdeal.cfg0.N,
    fun c => (Cert.NormInIdeal.Gen.dats m 0 c).arrAt 6 Cert.NormInIdeal.cfg0.N,
    fun c => (Cert.NormInIdeal.Gen.dats m 0 c).arrAt 7 Cert.NormInIdeal.cfg0.N, Cert.NormInIdeal.Value.run_blocks m g, ?_⟩
  refine (θ_run _ _ _).mono (fun r h c => ⟨(h c).1.trans ?_, (h c).2.1.trans ?_, (h c).2.2.1.trans ?_, (h c).2.2.2.1.trans ?_, (h c).2.2.2.2⟩)
    (Cert.NormInReferenceIdeal.Value.run m' g')
  all_goals obtain ⟨h0, h1, h2, h3⟩ := hagree c
  · refine (Cert.NormInReferenceIdeal.Read.val_main_v29_eq (F := Ideal) m' c).trans ?_
    rw [h0, h1, h2]
    exact (NormInValue.final_codes m c).symm
  · refine (Cert.NormInReferenceIdeal.Read.val_main_v34_eq (F := Ideal) _ _ _).trans ?_
    rw [h0, h1, h2]
    exact (NormInValue.final_rows m c).symm
  · refine (Cert.NormInReferenceIdeal.Read.val_main_v36_eq (F := Ideal) _ _ _).trans ?_
    rw [h0, h1, h2]
    exact (NormInValue.final_rep m c).symm
  · refine (Cert.NormInReferenceIdeal.Read.val_main_v33_eq (F := Ideal) _ _ _ _).trans ?_
    rw [h0, h1, h2, h3]
    exact (NormInValue.final_low_rank m c).symm

end Cert.Proof.NormInClaim
end
-- ==== Proof.Nibble.lean ====
/-
  FOUR-BIT WEIGHTS PACKED TWO TO A BYTE. A packed weight byte holds one signed four-bit number in its low half and another in its
  high half. The kernels read four rows of bytes as one row of 32-bit words, shift and mask the words, and read the words as
  bytes again: each byte then holds sixteen times one of its two numbers. The references take the halves out of each byte in
  32-bit integers. This module reads both spellings as the same two integers, `lowNibble` and `highNibble`, and states the one
  equation of extended reals that joins them to their group's scale.
-/
module

public import Idealize.ShloMosaic.Lib.BitcastFour
public import Idealize.ShloMosaic.Lib.Pointwise

@[expose] public section

set_option maxRecDepth 16384

noncomputable section

namespace Cert.Proof.Nibble

open Idealize.ShloMosaic

/-- The signed number in the low four bits of a byte. -/
def lowNibble (b : BitVec 8) : ℤ := ((b <<< 4).sshiftRight 4).toInt
/-- The signed number in the high four bits of a byte. -/
def highNibble (b : BitVec 8) : ℤ := (b.sshiftRight 4).toInt

/-- A byte shifted left by four is sixteen times its low number. -/
theorem shifted_toInt : ∀ b : BitVec 8, (b <<< 4).toInt = 16 * lowNibble b := by
  unfold lowNibble; decide +kernel
/-- A byte with its low half cleared is sixteen times its high number. -/
theorem masked_toInt : ∀ b : BitVec 8, (b &&& 0xF0#8).toInt = 16 * highNibble b := by
  unfold highNibble; decide +kernel

/-- The low half taken in 32-bit integers: mask, then subtract sixteen from eight on. -/
theorem low_select : ∀ b : BitVec 8,
    (Scalar.select (IntOp.cmpi .sge (IntOp.andi (b.setWidth 32) 15#32) 8#32)
      (IntOp.subi (IntOp.andi (b.setWidth 32) 15#32) 16#32) (IntOp.andi (b.setWidth 32) 15#32)).toInt = lowNibble b := by
  unfold lowNibble; decide +kernel
/-- The high half taken in 32-bit integers: shift, mask, then subtract sixteen from eight on. -/
theorem high_select : ∀ b : BitVec 8,
    (Scalar.select (IntOp.cmpi .sge (IntOp.andi (IntOp.shrsi .host (b.setWidth 32) 4#32) 15#32) 8#32)
      (IntOp.subi (IntOp.andi (IntOp.shrsi .host (b.setWidth 32) 4#32) 15#32) 16#32)
      (IntOp.andi (IntOp.shrsi .host (b.setWidth 32) 4#32) 15#32)).toInt = highNibble b := by
  unfold highNibble; decide +kernel

section Words
variable {R r n : Nat} (h : (⟨2, ![R, n]⟩ : Shape).Bitcasts 8 ⟨2, ![r, n]⟩ 32) (h' : (⟨2, ![r, n]⟩ : Shape).Bitcasts 32 ⟨2, ![R, n]⟩ 8)

/-- Words read back as bytes: bit `q` of the byte in row `p` is bit `8 (p mod 4) + q` of the word in row `p / 4`. -/
theorem bytes_getLsbD (w : IVec ⟨2, ![r, n]⟩ 32) (p : Fin R) (l : Fin n) (a : Fin r) (ha : a.val = p.val / 4) (q : Nat) (hq : q < 8) :
    (bitcast ⟨2, ![R, n]⟩ 8 w h' (ix2 p l)).getLsbD q = (w (ix2 a l)).getLsbD (p.val % 4 * 8 + q) := by
  rw [bitcast_getLsbD w h' _ q hq (by decide)]
  have hrow : (⟨2, ![R, n]⟩ : Shape).row (ix2 p l) = p.val := rfl
  have e1 : ((⟨2, ![R, n]⟩ : Shape).row (ix2 p l) * 8 + q) / 32 = p.val / 4 := by rw [hrow]; omega
  have e2 : ((⟨2, ![R, n]⟩ : Shape).row (ix2 p l) * 8 + q) % 32 = p.val % 4 * 8 + q := by rw [hrow]; omega
  rw [e2]
  refine congrArg (fun i => (w i).getLsbD _) ?_
  funext c
  match c with
  | ⟨0, _⟩ => exact Fin.ext ((h'.srcIdx_row _ _ _ ⟨0, Nat.zero_lt_two⟩ rfl).trans (e1.trans ha.symm))
  | ⟨1, _⟩ => exact Fin.ext (h'.srcIdx_other _ _ _ ⟨1, Nat.one_lt_two⟩ (by show ¬ 1 + 2 = 2; omega))

/-- Bytes read as words: bit `8 (p mod 4) + q` of the word in row `p / 4` is bit `q` of the byte in row `p`. -/
theorem words_getLsbD (x : IVec ⟨2, ![R, n]⟩ 8) (p : Fin R) (l : Fin n) (a : Fin r) (ha : a.val = p.val / 4) (q : Nat) (hq : q < 8) :
    (bitcast ⟨2, ![r, n]⟩ 32 x h (ix2 a l)).getLsbD (p.val % 4 * 8 + q) = (x (ix2 p l)).getLsbD q := by
  have e := bitcast_8_32_getLsbD_ix2 x h a l (p.val % 4 * 8 + q) (by omega) p (by omega)
  have e' : (p.val % 4 * 8 + q) % 8 = q := by omega
  rw [e'] at e
  exact e

/-- The mask that keeps the high half of each of a word's four bytes. -/
theorem mask_getLsbD (k q : Nat) (hk : k < 4) (hq : q < 8) : (4042322160#32).getLsbD (k * 8 + q) = (0xF0#8).getLsbD q := by
  interval_cases k <;> interval_cases q <;> rfl

/-- Shifting and masking words shifts each byte of them. -/
theorem shifted_bytes (x : IVec ⟨2, ![R, n]⟩ 8) (p : Fin R) (l : Fin n) :
    bitcast ⟨2, ![R, n]⟩ 8 (andi (shli (bitcast ⟨2, ![r, n]⟩ 32 x h) (broadcast ⟨2, ![r, n]⟩ 4#32)) (broadcast ⟨2, ![r, n]⟩ 4042322160#32)) h' (ix2 p l)
      = x (ix2 p l) <<< 4 := by
  have hr : p.val / 4 < r := by
    have h2 := h'.2.2 ⟨0, Nat.zero_lt_two⟩
    have h3 : r * 32 = R * 8 := by simpa using h2
    have := p.isLt
    omega
  apply BitVec.eq_of_getLsbD_eq
  intro q hq
  rw [bytes_getLsbD h' _ p l ⟨p.val / 4, hr⟩ rfl q hq]
  show (IntOp.andi (IntOp.shli .vector (bitcast ⟨2, ![r, n]⟩ 32 x h (ix2 ⟨p.val / 4, hr⟩ l)) 4#32) 4042322160#32).getLsbD _ = _
  have hs : ∀ v : BitVec 32, IntOp.shli .vector v 4#32 = v <<< 4 := fun v => rfl
  rw [hs, IntOp.andi, BitVec.getLsbD_and, mask_getLsbD _ q (by omega) hq, BitVec.getLsbD_shiftLeft, BitVec.getLsbD_shiftLeft]
  by_cases h4 : q < 4
  · have : (0xF0#8).getLsbD q = false := by interval_cases q <;> rfl
    simp [this, h4]
  · have : (0xF0#8).getLsbD q = true := by have : q < 8 := hq; interval_cases q <;> first | rfl | omega
    have e : p.val % 4 * 8 + q - 4 = p.val % 4 * 8 + (q - 4) := by omega
    rw [this, e, words_getLsbD h x p l _ rfl (q - 4) (by omega)]
    simp [h4, hq, show ¬ p.val % 4 * 8 + q < 4 by omega, show p.val % 4 * 8 + q < 32 by omega]

/-- Masking words masks each byte of them. -/
theorem masked_bytes (x : IVec ⟨2, ![R, n]⟩ 8) (p : Fin R) (l : Fin n) :
    bitcast ⟨2, ![R, n]⟩ 8 (andi (bitcast ⟨2, ![r, n]⟩ 32 x h) (broadcast ⟨2, ![r, n]⟩ 4042322160#32)) h' (ix2 p l)
      = x (ix2 p l) &&& 0xF0#8 := by
  have hr : p.val / 4 < r := by
    have h2 := h'.2.2 ⟨0, Nat.zero_lt_two⟩
    have h3 : r * 32 = R * 8 := by simpa using h2
    have := p.isLt
    omega
  apply BitVec.eq_of_getLsbD_eq
  intro q hq
  rw [bytes_getLsbD h' _ p l ⟨p.val / 4, hr⟩ rfl q hq]
  show (IntOp.andi (bitcast ⟨2, ![r, n]⟩ 32 x h (ix2 ⟨p.val / 4, hr⟩ l)) 4042322160#32).getLsbD _ = _
  rw [IntOp.andi, BitVec.getLsbD_and, mask_getLsbD _ q (by omega) hq, words_getLsbD h x p l _ rfl q hq, BitVec.getLsbD_and]

end Words

/-- The constant one sixteenth. -/
theorem ofBits_sixteenth : Ideal.ofBits .f32 0x3D800000#32 = ((1 / 16 : ℝ) : EReal) := by
  simp [Ideal.ofBits, Ideal.ieee, -EReal.coe_mul]; norm_num

/-- Sixteen times a number, times one sixteenth of a scale, is the number times the scale. -/
theorem sixteen_mul (z : ℤ) (s : EReal) : (((16 * z : ℤ) : ℝ) : EReal) * (s * ((1 / 16 : ℝ) : EReal)) = ((z : ℝ) : EReal) * s := by
  rw [mul_comm s, ← mul_assoc, ← EReal.coe_mul]
  congr 2
  push_cast
  ring

/-- A code widened to 32 bits before its conversion is the same number. -/
theorem widened (x : BitVec 8) : FloatOps.sitofp (F := Ideal) .bf16 (x.signExtend 32) = (((x.toInt : ℤ) : ℝ) : EReal) :=
  congrArg (fun z : ℤ => ((z : ℝ) : EReal)) (BitVec.toInt_signExtend_of_le (by decide))

end Cert.Proof.Nibble

end
-- ==== Proof.QkvBlock.lean ====
/-
  WHAT ONE GRID POINT OF THE QUERY/KEY/VALUE PRODUCT WRITES, as a formula in the blocks it reads: five hundred and twelve
  columns of the product of the int8 codes with the unpacked four-bit weights, times each row's scale, plus the low-rank
  product, with each batch entry's rows laid along the lanes.
-/
module

public import proofs.«01_k».proof.Proof.Nibble
public import proofs.«01_k».proof.Proof.Gen.QkvIdeal.Frame
public import Idealize.ShloMosaic.Lib.Pipeline.ValueKit

@[expose] public section

set_option maxRecDepth 16384

noncomputable section

namespace Cert.Proof.QkvBlock

open Idealize.ShloMosaic Idealize.ShloMosaic.TcCoe Idealize.SL.Sem
open Cert.QkvIdeal Cert.QkvIdeal.Gen Cert.Proof.Nibble

/-- The unpacked low halves: each byte's low number times its group's scale. -/
theorem low_apply (w : Vec Ideal S3584x512 .i8) (s : Vec Ideal S28x512 .f32) (p : Fin 3584) (l : Fin 512) :
    k0_pay7 (F := Ideal) w s (ix2 p l) = ((lowNibble (w (ix2 p l)) : ℝ) : EReal) * s (ix2 ⟨p.val / 128, by omega⟩ l) := by
  pointwise [k0_pay7, k0_pay6]
  rw [shifted_bytes, ofBits_sixteenth]
  show (((w (ix2 p l) <<< 4).toInt : ℝ) : EReal) * _ = _
  rw [shifted_toInt, sixteen_mul]

/-- The unpacked high halves: each byte's high number times its group's scale. -/
theorem high_apply (w : Vec Ideal S3584x512 .i8) (s : Vec Ideal S28x512 .f32) (p : Fin 3584) (l : Fin 512) :
    k0_pay8 (F := Ideal) w s (ix2 p l) = ((highNibble (w (ix2 p l)) : ℝ) : EReal) * s (ix2 ⟨p.val / 128, by omega⟩ l) := by
  pointwise [k0_pay8, k0_pay6]
  rw [masked_bytes, ofBits_sixteenth]
  show (((w (ix2 p l) &&& 0xF0#8).toInt : ℝ) : EReal) * _ = _
  rw [masked_toInt, sixteen_mul]

/-- One entry of a row tile: the codes' product with the weights times the row's scale, plus the low-rank product. The row's scale
    is read in lane `l mod 128`: the kernel repeats a tile of 128 lanes along the columns. -/
theorem tile_apply (lb : FVec Ideal S128x512 .bf16) (x : Vec Ideal S1024x7168 .i8) (w : Vec Ideal S7168x512 .bf16)
    (t : Vec Ideal S1x1024x128 .bf16) (s : Vec Ideal S1024x128 .f32) (p : Fin 1024) (l : Fin 512) :
    k0_pay10 (F := Ideal) lb x w t s (ix2 p l)
      = (∑ k : Fin 7168, (((x (ix2 p k)).toInt : ℝ) : EReal) * w (ix2 k l)) * s (ix2 p ⟨l.val % 128, Nat.mod_lt _ (by decide)⟩)
        + ∑ r : Fin 128, t (ix3 0 p r) * lb (ix2 r l) := by
  pointwise [k0_pay10]
  refine congrArg₂ (· + ·) (congrArg₂ (· * ·) rfl ?_) rfl
  by_cases h1 : l.val < 128
  · rw [dif_pos h1]; exact congrArg (fun q => s (ix2 p q)) (Fin.ext (by show l.val = l.val % 128; omega))
  rw [dif_neg h1]
  by_cases h2 : l.val - 128 < 128
  · rw [dif_pos h2]; exact congrArg (fun q => s (ix2 p q)) (Fin.ext (by show l.val - 128 = l.val % 128; omega))
  rw [dif_neg h2]
  by_cases h3 : l.val - 128 - 128 < 128
  · rw [dif_pos h3]; exact congrArg (fun q => s (ix2 p q)) (Fin.ext (by show l.val - 128 - 128 = l.val % 128; omega))
  rw [dif_neg h3]
  exact congrArg (fun q => s (ix2 p q)) (Fin.ext (by show l.val - 128 - 128 - 128 = l.val % 128; have := l.isLt; omega))

/-- A sum over the two halves of the contracted axis. -/
theorem sum_halves (x w : Fin 7168 → EReal) (lo hi : Fin 3584 → EReal)
    (hlo : ∀ k : Fin 3584, w ⟨k.val, by omega⟩ = lo k) (hhi : ∀ k : Fin 3584, w ⟨3584 + k.val, by omega⟩ = hi k) :
    ∑ k, x k * w k = (∑ k : Fin 3584, x ⟨k.val, by omega⟩ * lo k) + ∑ k : Fin 3584, x ⟨3584 + k.val, by omega⟩ * hi k := by
  rw [Fin.sum_univ_two_halves 3584 3584 rfl (fun k => x k * w k)]
  exact congrArg₂ (· + ·) (Finset.sum_congr rfl fun k _ => by rw [← hlo k]) (Finset.sum_congr rfl fun k _ => by rw [← hhi k])

/-- THE BLOCK'S FORMULA: row `p` (of all batch entries), column `l` of the block. -/
def entry (x0 : Vec Ideal S3072x7168 .i8) (x1 : Vec Ideal S3072x128 .f32) (x2 : Vec Ideal S1x3072x128 .bf16)
    (x3 : Vec Ideal S3584x512 .i8) (x4 : Vec Ideal S56x512 .f32) (x5 : Vec Ideal S1x128x512 .bf16) (p : Fin 3072) (l : Fin 512) : EReal :=
  ((∑ k : Fin 3584, (((x0 (ix2 p ⟨k.val, by omega⟩)).toInt : ℝ) : EReal)
        * (((lowNibble (x3 (ix2 k l)) : ℝ) : EReal) * x4 (ix2 ⟨k.val / 128, by omega⟩ l)))
    + ∑ k : Fin 3584, (((x0 (ix2 p ⟨3584 + k.val, by omega⟩)).toInt : ℝ) : EReal)
        * (((highNibble (x3 (ix2 k l)) : ℝ) : EReal) * x4 (ix2 ⟨28 + k.val / 128, by omega⟩ l)))
      * x1 (ix2 p ⟨l.val % 128, Nat.mod_lt _ (by decide)⟩)
    + ∑ r : Fin 128, x2 (ix3 0 p r) * x5 (ix3 0 r l)

/-- A row tile that starts at row `o` of the block holds the formula's rows from `o` on. -/
theorem tile_entry (x0 : Vec Ideal S3072x7168 .i8) (x1 : Vec Ideal S3072x128 .f32) (x2 : Vec Ideal S1x3072x128 .bf16)
    (x3 : Vec Ideal S3584x512 .i8) (x4 : Vec Ideal S56x512 .f32) (x5 : Vec Ideal S1x128x512 .bf16)
    (lb : FVec Ideal S128x512 .bf16) (x : Vec Ideal S1024x7168 .i8) (w : Vec Ideal S7168x512 .bf16)
    (t : Vec Ideal S1x1024x128 .bf16) (s : Vec Ideal S1024x128 .f32) (o : Fin 1024 → Fin 3072)
    (hlb : ∀ r l, lb (ix2 r l) = x5 (ix3 0 r l)) (hx : ∀ p k, x (ix2 p k) = x0 (ix2 (o p) k))
    (hs : ∀ p l, s (ix2 p l) = x1 (ix2 (o p) l)) (ht : ∀ p l, t (ix3 0 p l) = x2 (ix3 0 (o p) l))
    (hlo : ∀ (k : Fin 3584) (l : Fin 512), w (ix2 ⟨k.val, by omega⟩ l)
      = ((lowNibble (x3 (ix2 k l)) : ℝ) : EReal) * x4 (ix2 ⟨k.val / 128, by omega⟩ l))
    (hhi : ∀ (k : Fin 3584) (l : Fin 512), w (ix2 ⟨3584 + k.val, by omega⟩ l)
      = ((highNibble (x3 (ix2 k l)) : ℝ) : EReal) * x4 (ix2 ⟨28 + k.val / 128, by omega⟩ l))
    (p : Fin 1024) (l : Fin 512) :
    k0_pay10 (F := Ideal) lb x w t s (ix2 p l) = entry x0 x1 x2 x3 x4 x5 (o p) l := by
  rw [tile_apply, sum_halves (fun k => (((x (ix2 p k)).toInt : ℝ) : EReal)) (fun k => w (ix2 k l)) _ _ (fun k => hlo k l) (fun k => hhi k l)]
  unfold entry
  simp only [hx, hs, ht, hlb]

variable (m : (ℓ : Loc nD τ sig) → Buf (Elt Ideal) ℓ)

/-- What grid point `t` leaves in its block. -/
theorem outs_apply (c : Dev nD) (t : Fin cfg0.N) (b : Fin 12) (n : Fin 512) (q : Fin 256) :
    outsAt0 m c t (ix3 b n q)
      = entry (iblk m c 0 t) (iblk m c 1 t) (iblk m c 2 t) (iblk m c 3 t) (iblk m c 4 t) (iblk m c 5 t) ⟨b.val * 256 + q.val, by omega⟩ n := by
  unfold outsAt0
  frame_out
  generalize hW : (View.whole cc0_scratch0).readCov (Val := Elt Ideal) _ _ = W
  generalize (iblk m c 0 t : Vec Ideal S3072x7168 .i8) = x0 at *
  generalize (iblk m c 1 t : Vec Ideal S3072x128 .f32) = x1 at *
  generalize (iblk m c 2 t : Vec Ideal S1x3072x128 .bf16) = x2 at *
  generalize (iblk m c 3 t : Vec Ideal S3584x512 .i8) = x3 at *
  generalize (iblk m c 4 t : Vec Ideal S56x512 .f32) = x4 at *
  generalize (iblk m c 5 t : Vec Ideal S1x128x512 .bf16) = x5 at *
  have hlo : ∀ (k : Fin 3584) (l : Fin 512), W (ix2 ⟨k.val, by omega⟩ l)
      = ((lowNibble (x3 (ix2 k l)) : ℝ) : EReal) * x4 (ix2 ⟨k.val / 128, by omega⟩ l) := by
    intro k l
    rw [← hW, View.readCov_eq_canon']
    canon_tiles x h
    · simp only [Rect.idx_unit_val] at h0
      exact absurd (show k.val = 3584 + (x 0).val by simpa using h0) (by omega)
    · have hx : x = ix2 k l := by
        simp only [Rect.idx_unit_val] at h0 h1
        idx_vars x
        exact congrArg₂ ix2 (Fin.ext (by simpa using h0.symm)) (Fin.ext (by simpa using h1.symm))
      rw [hx, low_apply]
      pointwise []
  have hhi : ∀ (k : Fin 3584) (l : Fin 512), W (ix2 ⟨3584 + k.val, by omega⟩ l)
      = ((highNibble (x3 (ix2 k l)) : ℝ) : EReal) * x4 (ix2 ⟨28 + k.val / 128, by omega⟩ l) := by
    intro k l
    rw [← hW, View.readCov_eq_canon']
    canon_tiles x h
    · have hx : x = ix2 k l := by
        simp only [Rect.idx_unit_val] at h0 h1
        idx_vars x
        exact congrArg₂ ix2 (Fin.ext (by simpa using h0.symm)) (Fin.ext (by simpa using h1.symm))
      rw [hx, high_apply]
      pointwise []
    · simp only [Rect.idx_unit_val] at h0
      exact absurd (show 3584 + k.val = (x 0).val by simpa using h0) (by omega)
  clear hW
  have hlb : ∀ r l, k0_pay9 (F := Ideal) x5 (ix2 r l) = x5 (ix3 0 r l) := fun r l => by pointwise [k0_pay9]
  have tile := fun x t s (o : Fin 1024 → Fin 3072) hx hs ht p l => tile_entry x0 x1 x2 x3 x4 x5 _ x W t s o hlb hx hs ht hlo hhi p l
  canon_tiles x h
  all_goals (idx_vars x; pointwise [k0_pay16, k0_pay17, k0_pay18, k0_pay19, k0_pay11, k0_pay12, k0_pay13, k0_pay14, k0_pay2, k0_pay3, k0_pay4, k0_pay5])
  case' piece0 | piece1 | piece2 | piece3 => refine (tile _ _ _ (fun p => ⟨2048 + p.val, by omega⟩) ?_ ?_ ?_ _ _).trans ?_
  case' piece4 | piece5 | piece6 | piece7 => refine (tile _ _ _ (fun p => ⟨1024 + p.val, by omega⟩) ?_ ?_ ?_ _ _).trans ?_
  case' piece8 | piece9 | piece10 | piece11 => refine (tile _ _ _ (fun p => ⟨p.val, by omega⟩) ?_ ?_ ?_ _ _).trans ?_
  all_goals first
    | (intro p l; pointwise []; done)
    | (refine congrArg₂ (entry _ _ _ _ _ _) (Fin.ext ?_) (Fin.ext ?_) <;> (try dsimp only) <;> omega)

end Cert.Proof.QkvBlock
end
-- ==== Proof.QkvReference.lean ====
/-
  WHAT THE REFERENCE OF THE QUERY/KEY/VALUE PRODUCT COMPUTES, entry by entry.
-/
module

public import proofs.«01_k».proof.Proof.Nibble
public import proofs.«01_k».proof.Proof.Gen.QkvReferenceIdeal.Read
public import Idealize.ShloMosaic.Lib.Pointwise

@[expose] public section

set_option maxRecDepth 16384

noncomputable section

namespace Cert.Proof.QkvReference

open Idealize.ShloMosaic Idealize.ShloMosaic.TcCoe Idealize.SL.Sem
open Cert.QkvReferenceIdeal Cert.QkvReferenceIdeal.Gen Cert.QkvReferenceIdeal.Read Cert.Proof.Nibble

/-- The low weights of the reference: each byte's low number times its group's scale. -/
theorem low_apply (x3 : IVec S3584x21504 8) (x4 : FVec Ideal S56x21504 .f32) (k : Fin 3584) (n : Fin 21504) :
    val_main_v24 (F := Ideal) x3 x4 (ix2 k n) = ((lowNibble (x3 (ix2 k n)) : ℝ) : EReal) * x4 (ix2 ⟨k.val / 128, by omega⟩ n) := by
  pointwise [val_main_v24, val_main_v23, val_main_v22, val_main_v21, val_main_v20, val_main_v19, val_main_v18, val_main_v17, val_main_v11, val_main_v10, val_main_v9, val_main_v8, val_main_v7, val_main_v3, val_main_v2, val_main_v1, val_main_v0, val_main_c, val_main_c_0, val_main_c_1, val_main_c_2, val_main_c_3]
  exact congrArg (· * _) (congrArg (fun z : ℤ => ((z : ℝ) : EReal)) (low_select _))

/-- The high weights of the reference: each byte's high number times its group's scale. -/
theorem high_apply (x3 : IVec S3584x21504 8) (x4 : FVec Ideal S56x21504 .f32) (k : Fin 3584) (n : Fin 21504) :
    val_main_v32 (F := Ideal) x3 x4 (ix2 k n) = ((highNibble (x3 (ix2 k n)) : ℝ) : EReal) * x4 (ix2 ⟨28 + k.val / 128, by omega⟩ n) := by
  pointwise [val_main_v32, val_main_v31, val_main_v30, val_main_v29, val_main_v28, val_main_v27, val_main_v26, val_main_v25, val_main_v16, val_main_v15, val_main_v14, val_main_v13, val_main_v12, val_main_v6, val_main_v5, val_main_v4, val_main_v3, val_main_c_0, val_main_v0, val_main_c_1, val_main_c_2, val_main_c_4, val_main_c_5]
  exact congrArg (· * _) (congrArg (fun z : ℤ => ((z : ℝ) : EReal)) (high_select _))

/-- One entry of the result: batch entry `b`, column `n`, position `q`. -/
theorem ref_apply (x0 : IVec S3072x7168 8) (x1 : FVec Ideal S3072 .f32) (x2 : FVec Ideal S3x3072x128 .bf16)
    (x3 : IVec S3584x21504 8) (x4 : FVec Ideal S56x21504 .f32) (x5 : FVec Ideal S3x128x7168 .bf16) (b : Fin 12) (n : Fin 21504) (q : Fin 256) :
    val_main_v48 (F := Ideal) x0 x1 x2 x3 x4 x5 (ix3 b n q)
      = ((∑ k : Fin 3584, (((x0 (ix2 ⟨b.val * 256 + q.val, by omega⟩ ⟨k.val, by omega⟩)).toInt : ℝ) : EReal)
            * (((lowNibble (x3 (ix2 k n)) : ℝ) : EReal) * x4 (ix2 ⟨k.val / 128, by omega⟩ n)))
          + ∑ k : Fin 3584, (((x0 (ix2 ⟨b.val * 256 + q.val, by omega⟩ ⟨3584 + k.val, by omega⟩)).toInt : ℝ) : EReal)
            * (((highNibble (x3 (ix2 k n)) : ℝ) : EReal) * x4 (ix2 ⟨28 + k.val / 128, by omega⟩ n)))
          * x1 (ix1 ⟨b.val * 256 + q.val, by omega⟩)
        + ∑ r : Fin 128, x2 (ix3 ⟨n.val / 7168, by omega⟩ ⟨b.val * 256 + q.val, by omega⟩ r)
            * x5 (ix3 ⟨n.val / 7168, by omega⟩ r ⟨n.val % 7168, Nat.mod_lt _ (by decide)⟩) := by
  pointwise [val_main_v48, val_main_v47, val_main_v46, val_main_v45, val_main_v44, val_main_v43, val_main_v42, val_main_v41, val_main_v40, val_main_v39, val_main_v38, val_main_v37, val_main_v36, val_main_v35, val_main_v34, val_main_v33]
  simp only [widened, low_apply, high_apply]
  exact congrArg _ (Finset.sum_congr rfl fun r _ => mul_comm _ _)

end Cert.Proof.QkvReference
end
-- ==== Proof.QkvValue.lean ====
/-
  THE EQUATION for the query/key/value product: the array the kernel leaves is the reference's term over the same arguments.
-/
module

public import proofs.«01_k».proof.Proof.QkvBlock
public import proofs.«01_k».proof.Proof.QkvReference
public import proofs.«01_k».proof.Proof.Gen.QkvIdeal.Value
public import Idealize.ShloMosaic.Lib.Claim

@[expose] public section

set_option maxRecDepth 16384

noncomputable section

namespace Cert.Proof.QkvValue

open Idealize.ShloMosaic Idealize.ShloMosaic.TcCoe Idealize.SL.Sem
open Cert.QkvIdeal Cert.QkvIdeal.Gen

/-- Where every window's block lies at grid point `t`: columns `512 t`, and the low-rank factors of the projection `t / 14`. -/
theorem idx : ∀ t : Fin cfg0.N, win0_0.index t = ![0, 0] ∧ win0_1.index t = ![0, 0] ∧ win0_2.index t = ![t.val / 14, 0, 0]
    ∧ win0_3.index t = ![0, t.val] ∧ win0_4.index t = ![0, t.val] ∧ win0_5.index t = ![t.val / 14, 0, t.val % 14]
    ∧ win0_6.index t = ![0, t.val, 0] ∧ t.val < 42 :=
  (by decide +kernel : ∀ t : Fin grid0.N, _)

variable (m : (ℓ : Loc nD τ sig) → Buf (Elt Ideal) ℓ)

/-- One entry of the block grid point `t` writes is the reference's entry of column `512 t + n`. -/
theorem point (c : Dev nD) (t : Fin cfg0.N) (ht : t.val < 42) (b : Fin 12) (n : Fin 512) (q : Fin 256) :
    outsAt0 m c t (ix3 b n q)
      = Cert.QkvReferenceIdeal.Read.val_main_v48 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (ix3 b ⟨t.val * 512 + n.val, by omega⟩ q) := by
  rw [QkvBlock.outs_apply]
  refine Eq.trans ?_ (QkvReference.ref_apply _ _ _ _ _ _ b ⟨t.val * 512 + n.val, by omega⟩ q).symm
  have h1 : (t.val * 512 + n.val) / 7168 = t.val / 14 := by omega
  have h2 : (t.val * 512 + n.val) % 7168 = t.val % 14 * 512 + n.val := by omega
  unfold QkvBlock.entry
  blk_point [iblk, V, idx t]

/-- The array after the run. -/
theorem final (c : Dev nD) : (dats m 0 c).arrAt 6 (cfgs 0).N
    = Cert.QkvReferenceIdeal.Read.val_main_v48 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  refine (dats m 0 c).arrAt_eq_of_covers 6 _ (by decide +kernel) fun t _ y => ?_
  blk_simp
  rw [after0_6]
  obtain ⟨-, -, -, -, -, -, hi, ht⟩ := idx t
  have hy := eq_ix3 (show S12x512x256.Idx from y)
  refine (congrArg (outsAt0 m c t) hy).trans ((point m c t ht _ _ _).trans (congrArg _ ?_))
  blk_ext [hi]

end Cert.Proof.QkvValue
end
-- ==== Proof.QkvClaim.lean ====
/-
  THE CLAIMS ABOUT THE QUERY/KEY/VALUE PRODUCT: the reference's frame and the equation of the two results.
-/
module

public import proofs.«01_k».proof.Defs
public import proofs.«01_k».proof.Proof.QkvValue
public import proofs.«01_k».proof.Proof.Gen.QkvReferenceIdeal.Run

@[expose] public section

set_option maxRecDepth 16384

noncomputable section

namespace Cert.Proof.QkvClaim

open Idealize.ShloMosaic Idealize.SL.Sem

/-- The reference ends with its arguments and semaphores as they were. -/
theorem reference_frame : quiescent_QkvReferenceIdeal (hQkvReferenceIdeal := Cert.QkvReferenceIdeal.Gen.facts) := by
  intro m ρ _
  refine (θ_run _ _ _).mono (fun r h => ⟨fun c => (h c).2, funext fun g => ?_⟩) (Cert.QkvReferenceIdeal.Value.run m ρ)
  exact ((by decide : ∀ _ : SemLoc Cert.QkvReferenceIdeal.sig, False) g.2).elim

/-- Kernel and reference leave the same array. -/
theorem equation : algebraic_QkvIdeal_QkvReferenceIdeal (hQkvIdeal := Cert.QkvIdeal.Gen.facts)
    (hQkvReferenceIdeal := Cert.QkvReferenceIdeal.Gen.facts) := by
  pair_intro
  · run_from Cert.QkvIdeal.Value.run_blocks m g
  · run_from Cert.QkvReferenceIdeal.Value.run m' g'
    exact (Cert.Proof.QkvValue.final m c).symm

end Cert.Proof.QkvClaim
end
-- ==== Proof.OprojBlock.lean ====
/-
  WHAT ONE GRID POINT OF THE ATTENTION'S OUTPUT PROJECTION WRITES, as a formula in the blocks it reads: two times two hundred and
  fifty-six columns of the product of the int8 codes with the unpacked four-bit weights, times each row's scale. The low halves of
  the bytes give the columns of the first half of the result, the high halves those of the second.
-/
module

public import proofs.«01_k».proof.Proof.Nibble
public import proofs.«01_k».proof.Proof.Gen.OprojIdeal.Frame
public import Idealize.ShloMosaic.Lib.Pipeline.ValueKit

@[expose] public section

set_option maxRecDepth 16384

noncomputable section

namespace Cert.Proof.OprojBlock

open Idealize.ShloMosaic Idealize.ShloMosaic.TcCoe Idealize.SL.Sem
open Cert.OprojIdeal Cert.OprojIdeal.Gen Cert.Proof.Nibble

/-- The unpacked low halves: each byte's low number times its group's scale. -/
theorem low_apply (w : Vec Ideal S7168x256 .i8) (s : Vec Ideal S56x256 .f32) (p : Fin 7168) (l : Fin 256) :
    k0_pay5 (F := Ideal) w s (ix2 p l) = ((lowNibble (w (ix2 p l)) : ℝ) : EReal) * s (ix2 ⟨p.val / 128, by omega⟩ l) := by
  pointwise [k0_pay5, k0_pay4]
  rw [shifted_bytes, ofBits_sixteenth]
  show (((w (ix2 p l) <<< 4).toInt : ℝ) : EReal) * _ = _
  rw [shifted_toInt, sixteen_mul]

/-- The unpacked high halves: each byte's high number times its group's scale. -/
theorem high_apply (w : Vec Ideal S7168x256 .i8) (s : Vec Ideal S56x256 .f32) (p : Fin 7168) (l : Fin 256) :
    k0_pay6 (F := Ideal) w s (ix2 p l) = ((highNibble (w (ix2 p l)) : ℝ) : EReal) * s (ix2 ⟨p.val / 128, by omega⟩ l) := by
  pointwise [k0_pay6, k0_pay4]
  rw [masked_bytes, ofBits_sixteenth]
  show (((w (ix2 p l) &&& 0xF0#8).toInt : ℝ) : EReal) * _ = _
  rw [masked_toInt, sixteen_mul]

/-- One entry of a row tile: the codes' product with the weights times the row's scale. The row's scale is read in lane `l mod 128`:
    the kernel repeats a tile of 128 lanes along the columns. -/
theorem tile_apply (x : Vec Ideal S1024x7168 .i8) (w : Vec Ideal S7168x512 .bf16) (s : Vec Ideal S1024x128 .f32) (p : Fin 1024) (l : Fin 512) :
    k0_pay11 (F := Ideal) x w s (ix2 p l)
      = (∑ k : Fin 7168, (((x (ix2 p k)).toInt : ℝ) : EReal) * w (ix2 k l)) * s (ix2 p ⟨l.val % 128, Nat.mod_lt _ (by decide)⟩) := by
  pointwise [k0_pay11]
  refine congrArg₂ (· * ·) rfl ?_
  by_cases h1 : l.val < 128
  · rw [dif_pos h1]; exact congrArg (fun q => s (ix2 p q)) (Fin.ext (by show l.val = l.val % 128; omega))
  rw [dif_neg h1]
  by_cases h2 : l.val - 128 < 128
  · rw [dif_pos h2]; exact congrArg (fun q => s (ix2 p q)) (Fin.ext (by show l.val - 128 = l.val % 128; omega))
  rw [dif_neg h2]
  by_cases h3 : l.val - 128 - 128 < 128
  · rw [dif_pos h3]; exact congrArg (fun q => s (ix2 p q)) (Fin.ext (by show l.val - 128 - 128 = l.val % 128; omega))
  rw [dif_neg h3]
  exact congrArg (fun q => s (ix2 p q)) (Fin.ext (by show l.val - 128 - 128 - 128 = l.val % 128; have := l.isLt; omega))

/-- THE BLOCK'S FORMULA: half `h`, row `p`, column `l` of the block. -/
def entry (x0 : Vec Ideal S3072x7168 .i8) (x1 : Vec Ideal S3072x128 .f32) (x2 : Vec Ideal S7168x256 .i8)
    (x3 : Vec Ideal S56x256 .f32) (x4 : Vec Ideal S56x256 .f32) (h : Fin 2) (p : Fin 3072) (l : Fin 256) : EReal :=
  (∑ k : Fin 7168, (((x0 (ix2 p k)).toInt : ℝ) : EReal)
      * (if h = 0 then ((lowNibble (x2 (ix2 k l)) : ℝ) : EReal) * x3 (ix2 ⟨k.val / 128, by omega⟩ l)
          else ((highNibble (x2 (ix2 k l)) : ℝ) : EReal) * x4 (ix2 ⟨k.val / 128, by omega⟩ l)))
    * x1 (ix2 p ⟨l.val % 128, Nat.mod_lt _ (by decide)⟩)

theorem entry_congr (x0 : Vec Ideal S3072x7168 .i8) (x1 : Vec Ideal S3072x128 .f32) (x2 : Vec Ideal S7168x256 .i8)
    (x3 : Vec Ideal S56x256 .f32) (x4 : Vec Ideal S56x256 .f32) {h h' : Fin 2} {p p' : Fin 3072} {l l' : Fin 256}
    (eh : h = h') (ep : p = p') (el : l = l') : entry x0 x1 x2 x3 x4 h p l = entry x0 x1 x2 x3 x4 h' p' l' := by
  rw [eh, ep, el]

section Tile
variable (x0 : Vec Ideal S3072x7168 .i8) (x1 : Vec Ideal S3072x128 .f32) (x2 : Vec Ideal S7168x256 .i8)
  (x3 : Vec Ideal S56x256 .f32) (x4 : Vec Ideal S56x256 .f32)
  (x : Vec Ideal S1024x7168 .i8) (w : Vec Ideal S7168x512 .bf16) (s : Vec Ideal S1024x128 .f32) (o : Fin 1024 → Fin 3072)
  (hx : ∀ p k, x (ix2 p k) = x0 (ix2 (o p) k)) (hs : ∀ p l, s (ix2 p l) = x1 (ix2 (o p) l))
include hx hs

/-- A row tile's first 256 columns hold the formula's first half. -/
theorem tile_low (hlo : ∀ (k : Fin 7168) (l : Fin 256), w (ix2 k ⟨l.val, by omega⟩)
      = ((lowNibble (x2 (ix2 k l)) : ℝ) : EReal) * x3 (ix2 ⟨k.val / 128, by omega⟩ l)) (p : Fin 1024) (l : Fin 256) :
    k0_pay11 (F := Ideal) x w s (ix2 p ⟨l.val, by omega⟩) = entry x0 x1 x2 x3 x4 0 (o p) l := by
  rw [tile_apply]
  unfold entry
  simp only [hx, hs, hlo, if_true]

/-- A row tile's last 256 columns hold the formula's second half. -/
theorem tile_high (hhi : ∀ (k : Fin 7168) (l : Fin 256), w (ix2 k ⟨256 + l.val, by omega⟩)
      = ((highNibble (x2 (ix2 k l)) : ℝ) : EReal) * x4 (ix2 ⟨k.val / 128, by omega⟩ l)) (p : Fin 1024) (l : Fin 256) :
    k0_pay11 (F := Ideal) x w s (ix2 p ⟨256 + l.val, by omega⟩) = entry x0 x1 x2 x3 x4 1 (o p) l := by
  rw [tile_apply]
  unfold entry
  simp only [hx, hs, hhi, if_neg (show ¬ (1 : Fin 2) = 0 by decide)]
  refine congrArg₂ (· * ·) rfl (congrArg (fun q => x1 (ix2 (o p) q)) (Fin.ext ?_))
  show (256 + l.val) % 128 = l.val % 128
  omega

end Tile

variable (m : (ℓ : Loc nD τ sig) → Buf (Elt Ideal) ℓ)

/-- What grid point `t` leaves in its block. -/
theorem outs_apply (c : Dev nD) (t : Fin cfg0.N) (b : Fin 2) (n : Fin 3072) (q : Fin 256) :
    outsAt0 m c t (ix3 b n q) = entry (iblk m c 0 t) (iblk m c 1 t) (iblk m c 2 t) (iblk m c 3 t) (iblk m c 4 t) b n q := by
  unfold outsAt0
  frame_out
  generalize hW : (View.whole cc0_scratch0).readCov (Val := Elt Ideal) _ _ = W
  generalize (iblk m c 0 t : Vec Ideal S3072x7168 .i8) = y0 at *
  generalize (iblk m c 1 t : Vec Ideal S3072x128 .f32) = y1 at *
  generalize (iblk m c 2 t : Vec Ideal S7168x256 .i8) = y2 at *
  generalize (iblk m c 3 t : Vec Ideal S56x256 .f32) = y3 at *
  generalize (iblk m c 4 t : Vec Ideal S56x256 .f32) = y4 at *
  have hlo : ∀ (k : Fin 7168) (l : Fin 256), W (ix2 k ⟨l.val, by omega⟩)
      = ((lowNibble (y2 (ix2 k l)) : ℝ) : EReal) * y3 (ix2 ⟨k.val / 128, by omega⟩ l) := by
    intro k l
    rw [← hW, View.readCov_eq_canon']
    canon_tiles x h
    · simp only [Rect.idx_unit_val] at h1
      exact absurd (show l.val = 256 + (x 1).val by simpa using h1) (by omega)
    · have hx : x = ix2 k l := by
        simp only [Rect.idx_unit_val] at h0 h1
        idx_vars x
        exact congrArg₂ ix2 (Fin.ext (by simpa using h0.symm)) (Fin.ext (by simpa using h1.symm))
      rw [hx, low_apply]
  have hhi : ∀ (k : Fin 7168) (l : Fin 256), W (ix2 k ⟨256 + l.val, by omega⟩)
      = ((highNibble (y2 (ix2 k l)) : ℝ) : EReal) * y4 (ix2 ⟨k.val / 128, by omega⟩ l) := by
    intro k l
    rw [← hW, View.readCov_eq_canon']
    canon_tiles x h
    · have hx : x = ix2 k l := by
        simp only [Rect.idx_unit_val] at h0 h1
        idx_vars x
        exact congrArg₂ ix2 (Fin.ext (by simpa using h0.symm)) (Fin.ext (by simpa using h1.symm))
      rw [hx, high_apply]
    · simp only [Rect.idx_unit_val] at h1
      exact absurd (show 256 + l.val = (x 1).val by simpa using h1) (by omega)
  clear hW
  have e8 : ∀ x s, k0_pay8 (F := Ideal) (k0_pay7 x) W s = k0_pay11 x W s := fun x s => rfl
  have e1 : ∀ x s, k0_pay1 (F := Ideal) (k0_pay14 x) W s = k0_pay11 x W s := fun x s => rfl
  have low := fun x s (o : Fin 1024 → Fin 3072) hx hs p l => tile_low y0 y1 y2 y3 y4 x W s o hx hs hlo p l
  have high := fun x s (o : Fin 1024 → Fin 3072) hx hs p l => tile_high y0 y1 y2 y3 y4 x W s o hx hs hhi p l
  canon_tiles x h
  all_goals (idx_vars x; pointwise [k0_pay2, k0_pay3, k0_pay9, k0_pay10, k0_pay12, k0_pay13]; try simp only [e8, e1])
  case' piece0 => refine (high _ _ (fun p => ⟨2048 + p.val, by omega⟩) ?_ ?_ _ _).trans ?_
  case' piece1 => refine (low _ _ (fun p => ⟨2048 + p.val, by omega⟩) ?_ ?_ _ _).trans ?_
  case' piece2 => refine (high _ _ (fun p => ⟨1024 + p.val, by omega⟩) ?_ ?_ _ _).trans ?_
  case' piece3 => refine (low _ _ (fun p => ⟨1024 + p.val, by omega⟩) ?_ ?_ _ _).trans ?_
  case' piece4 => refine (high _ _ (fun p => ⟨p.val, by omega⟩) ?_ ?_ _ _).trans ?_
  case' piece5 => refine (low _ _ (fun p => ⟨p.val, by omega⟩) ?_ ?_ _ _).trans ?_
  all_goals first
    | (intro p l; pointwise []; done)
    | (refine entry_congr y0 y1 y2 y3 y4 (Fin.ext ?_) (Fin.ext ?_) (Fin.ext ?_) <;> (try dsimp only) <;> omega)

end Cert.Proof.OprojBlock
end
-- ==== Proof.OprojReference.lean ====
/-
  WHAT THE REFERENCE OF THE ATTENTION'S OUTPUT PROJECTION COMPUTES, entry by entry.
-/
module

public import proofs.«01_k».proof.Proof.Nibble
public import proofs.«01_k».proof.Proof.Gen.OprojReferenceIdeal.Read
public import Idealize.ShloMosaic.Lib.Pointwise

@[expose] public section

set_option maxRecDepth 16384

noncomputable section

namespace Cert.Proof.OprojReference

open Idealize.ShloMosaic Idealize.ShloMosaic.TcCoe Idealize.SL.Sem
open Cert.OprojReferenceIdeal Cert.OprojReferenceIdeal.Gen Cert.OprojReferenceIdeal.Read Cert.Proof.Nibble

/-- The low weights of the reference: each byte's low number times its group's scale. -/
theorem low_apply (x2 : IVec S7168x1792 8) (x3 : FVec Ideal S56x3584 .f32) (k : Fin 7168) (n : Fin 1792) :
    val_main_v24 (F := Ideal) x2 x3 (ix2 k n) = ((lowNibble (x2 (ix2 k n)) : ℝ) : EReal) * x3 (ix2 ⟨k.val / 128, by omega⟩ ⟨n.val, by omega⟩) := by
  pointwise [val_main_v24, val_main_v23, val_main_v22, val_main_v21, val_main_v20, val_main_v19, val_main_v18, val_main_v17, val_main_v11, val_main_v10, val_main_v9, val_main_v8, val_main_v7, val_main_v3, val_main_v2, val_main_v1, val_main_v0, val_main_c, val_main_c_0, val_main_c_1, val_main_c_2, val_main_c_3]
  exact congrArg (· * _) (congrArg (fun z : ℤ => ((z : ℝ) : EReal)) (low_select _))

/-- The high weights of the reference: each byte's high number times its group's scale. -/
theorem high_apply (x2 : IVec S7168x1792 8) (x3 : FVec Ideal S56x3584 .f32) (k : Fin 7168) (n : Fin 1792) :
    val_main_v32 (F := Ideal) x2 x3 (ix2 k n) = ((highNibble (x2 (ix2 k n)) : ℝ) : EReal) * x3 (ix2 ⟨k.val / 128, by omega⟩ ⟨1792 + n.val, by omega⟩) := by
  pointwise [val_main_v32, val_main_v31, val_main_v30, val_main_v29, val_main_v28, val_main_v27, val_main_v26, val_main_v25, val_main_v16, val_main_v15, val_main_v14, val_main_v13, val_main_v12, val_main_v6, val_main_v5, val_main_v4, val_main_v3, val_main_c_0, val_main_v0, val_main_c_1, val_main_c_2, val_main_c_4, val_main_c_5]
  exact congrArg (· * _) (congrArg (fun z : ℤ => ((z : ℝ) : EReal)) (high_select _))

/-- One entry of the result: half `h`, row `p`, column `n` of the half. -/
theorem ref_apply (x0 : IVec S3072x7168 8) (x1 : FVec Ideal S3072 .f32) (x2 : IVec S7168x1792 8) (x3 : FVec Ideal S56x3584 .f32)
    (h : Fin 2) (p : Fin 3072) (n : Fin 1792) :
    val_main_v42 (F := Ideal) x0 x1 x2 x3 (ix3 h p n)
      = (∑ k : Fin 7168, (((x0 (ix2 p k)).toInt : ℝ) : EReal)
          * (if h = 0 then ((lowNibble (x2 (ix2 k n)) : ℝ) : EReal) * x3 (ix2 ⟨k.val / 128, by omega⟩ ⟨n.val, by omega⟩)
              else ((highNibble (x2 (ix2 k n)) : ℝ) : EReal) * x3 (ix2 ⟨k.val / 128, by omega⟩ ⟨1792 + n.val, by omega⟩)))
        * x1 (ix1 p) := by
  pointwise [val_main_v42, val_main_v41, val_main_v40, val_main_v39, val_main_v38, val_main_v37, val_main_v36, val_main_v35, val_main_v34, val_main_v33]
  simp only [widened, low_apply, high_apply]
  refine congrArg₂ (· * ·) ?_ rfl
  by_cases hh : h = 0
  · subst hh
    rw [dif_pos (by show 0 * 1792 + n.val < 1792; omega)]
    refine Finset.sum_congr rfl fun k _ => congrArg₂ (· * ·) rfl ?_
    rw [if_pos rfl]
    have e : (0 : Fin 2).val * 1792 + n.val = n.val := by simp
    simp only [e]
  · have h1 : h = 1 := by omega
    subst h1
    rw [dif_neg (by show ¬ (1 * 1792 + n.val < 1792); omega)]
    refine Finset.sum_congr rfl fun k _ => congrArg₂ (· * ·) rfl ?_
    rw [if_neg (show ¬ (1 : Fin 2) = 0 by decide)]
    have e : (1 : Fin 2).val * 1792 + n.val - 1792 = n.val := by simp
    simp only [e]

end Cert.Proof.OprojReference
end
-- ==== Proof.OprojValue.lean ====
/-
  THE EQUATION for the attention's output projection: the array the kernel leaves is the reference's term over the same arguments.
-/
module

public import proofs.«01_k».proof.Proof.OprojBlock
public import proofs.«01_k».proof.Proof.OprojReference
public import proofs.«01_k».proof.Proof.Gen.OprojIdeal.Value
public import Idealize.ShloMosaic.Lib.Claim

@[expose] public section

set_option maxRecDepth 16384

noncomputable section

namespace Cert.Proof.OprojValue

open Idealize.ShloMosaic Idealize.ShloMosaic.TcCoe Idealize.SL.Sem
open Cert.OprojIdeal Cert.OprojIdeal.Gen

/-- Where every window's block lies at grid point `t`: columns `256 t`, the high weights' scales seven blocks further on. -/
theorem idx : ∀ t : Fin cfg0.N, win0_0.index t = ![0, 0] ∧ win0_1.index t = ![0, 0] ∧ win0_2.index t = ![0, t.val]
    ∧ win0_3.index t = ![0, t.val] ∧ win0_4.index t = ![0, 7 + t.val] ∧ win0_5.index t = ![0, 0, t.val] ∧ t.val < 7 :=
  (by decide +kernel : ∀ t : Fin grid0.N, _)

variable (m : (ℓ : Loc nD τ sig) → Buf (Elt Ideal) ℓ)

/-- One entry of the block grid point `t` writes is the reference's entry of column `256 t + q` of the half. -/
theorem point (c : Dev nD) (t : Fin cfg0.N) (ht : t.val < 7) (b : Fin 2) (n : Fin 3072) (q : Fin 256) :
    outsAt0 m c t (ix3 b n q)
      = Cert.OprojReferenceIdeal.Read.val_main_v42 (F := Ideal) (m ((c : Thread nD τ).loc main_arg0)) (m ((c : Thread nD τ).loc main_arg1))
        (m ((c : Thread nD τ).loc main_arg2)) (m ((c : Thread nD τ).loc main_arg3)) (ix3 b n ⟨t.val * 256 + q.val, by omega⟩) := by
  rw [OprojBlock.outs_apply]
  refine Eq.trans ?_ (OprojReference.ref_apply _ _ _ _ b n ⟨t.val * 256 + q.val, by omega⟩).symm
  unfold OprojBlock.entry
  by_cases hb : b = 0
  · simp only [hb, if_true]
    blk_point [iblk, V, idx t]
  · simp only [hb, if_false]
    blk_point [iblk, V, idx t]

/-- The array after the run. -/
theorem final (c : Dev nD) : (dats m 0 c).arrAt 5 (cfgs 0).N
    = Cert.OprojReferenceIdeal.Read.val_main_v42 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 5 _ (by decide +kernel) fun t _ y => ?_
  blk_simp
  rw [after0_5]
  obtain ⟨-, -, -, -, -, hi, ht⟩ := idx t
  have hy := eq_ix3 (show S2x3072x256.Idx from y)
  refine (congrArg (outsAt0 m c t) hy).trans ((point m c t ht _ _ _).trans (congrArg _ ?_))
  blk_ext [hi]

end Cert.Proof.OprojValue
end
-- ==== Proof.OprojClaim.lean ====
/-
  THE CLAIMS ABOUT THE OUTPUT PROJECTION OF THE ATTENTION: the reference's frame and the equation of the results.
-/
module

public import proofs.«01_k».proof.Defs
public import proofs.«01_k».proof.Proof.OprojValue
public import proofs.«01_k».proof.Proof.Gen.OprojReferenceIdeal.Run

@[expose] public section

set_option maxRecDepth 16384

noncomputable section

namespace Cert.Proof.OprojClaim

open Idealize.ShloMosaic Idealize.SL.Sem

/-- The reference ends with its arguments and semaphores as they were. -/
theorem reference_frame : quiescent_OprojReferenceIdeal (hOprojReferenceIdeal := Cert.OprojReferenceIdeal.Gen.facts) := by
  intro m ρ _
  refine (θ_run _ _ _).mono (fun r h => ⟨fun c => (h c).2, funext fun g => ?_⟩) (Cert.OprojReferenceIdeal.Value.run m ρ)
  exact ((by decide : ∀ _ : SemLoc Cert.OprojReferenceIdeal.sig, False) g.2).elim

/-- Kernel and reference leave the same array. -/
theorem equation : algebraic_OprojIdeal_OprojReferenceIdeal (hOprojIdeal := Cert.OprojIdeal.Gen.facts)
    (hOprojReferenceIdeal := Cert.OprojReferenceIdeal.Gen.facts) := by
  pair_intro
  · run_from Cert.OprojIdeal.Value.run_blocks m g
  · run_from Cert.OprojReferenceIdeal.Value.run m' g'
    refine (Cert.OprojReferenceIdeal.Read.val_main_v42_eq (F := Ideal) _ _ _ _).trans ?_
    refine Eq.trans ?_ (Cert.Proof.OprojValue.final m c).symm
    rw [(hagree c).2.2.1, (hagree c).2.2.2]

end Cert.Proof.OprojClaim
end
-- ==== Proof.NormFfBlock.lean ====
/-
  WHAT ONE GRID POINT OF THE FEED-FORWARD'S NORM WRITES, as a formula in the blocks it reads: two hundred and fifty-six rows divided by
  the root of their mean square, their eight-bit codes and scales, and their low-rank product.
-/
module

public import proofs.«01_k».proof.Proof.Quant
public import proofs.«01_k».proof.Proof.Gen.NormFfIdeal.Frame
public import Idealize.ShloMosaic.Lib.Pipeline.ValueKit

@[expose] public section

set_option maxRecDepth 16384

noncomputable section

namespace Cert.Proof.NormFfBlock

open Idealize.ShloMosaic Idealize.ShloMosaic.TcCoe Idealize.SL.Sem
open Cert.NormFfIdeal Cert.NormFfIdeal.Gen Cert.Proof.Quant

/-- Row `p` of a block: its first half lies in the first plane, its second half in the second. -/
def row (x : Vec Ideal S2x256x1792 .f32) (p : Fin 256) (l : Fin 3584) : EReal :=
  x (ix3 ⟨l.val / 1792, by omega⟩ p ⟨l.val % 1792, Nat.mod_lt _ (by decide)⟩)

theorem row_low (x : Vec Ideal S2x256x1792 .f32) (p : Fin 256) (k : Fin 1792) : row x p ⟨k.val, by omega⟩ = x (ix3 0 p k) := by
  refine congrArg x ?_
  refine congrArg₂ (fun a b => ix3 a p b) (Fin.ext ?_) (Fin.ext ?_)
  · show k.val / 1792 = 0; omega
  · show k.val % 1792 = k.val; omega

theorem row_high (x : Vec Ideal S2x256x1792 .f32) (p : Fin 256) (k : Fin 1792) : row x p ⟨1792 + k.val, by omega⟩ = x (ix3 1 p k) := by
  refine congrArg x ?_
  refine congrArg₂ (fun a b => ix3 a p b) (Fin.ext ?_) (Fin.ext ?_)
  · show (1792 + k.val) / 1792 = 1; omega
  · show (1792 + k.val) % 1792 = k.val; omega

/-- Row `p` of a block, normed. -/
def f (x0 : Vec Ideal S2x256x1792 .f32) (x1 : Vec Ideal S1x3584 .f32) (p : Fin 256) : Fin 3584 → EReal :=
  normed 0x45600000#32 (row x0 p) fun l => x1 (ix2 0 l)

theorem f_apply (x0 : Vec Ideal S2x256x1792 .f32) (x1 : Vec Ideal S1x3584 .f32) (p : Fin 256) (l : Fin 3584) :
    k0_pay4 (F := Ideal) (View.ld x0 r0_0) (View.ld x0 r0_1) (View.ld x1 r0_2) (ix2 p l) = f x0 x1 p l := by
  pointwise [k0_pay4]
  unfold f normed
  have hs : (∑ k, row x0 p k * row x0 p k) = ∑ k : Fin 1792, x0 (ix3 0 p k) * x0 (ix3 0 p k) + ∑ k : Fin 1792, x0 (ix3 1 p k) * x0 (ix3 1 p k) := by
    rw [Fin.sum_univ_two_halves 1792 1792 rfl (fun k => row x0 p k * row x0 p k)]
    exact congrArg₂ (· + ·) (Finset.sum_congr rfl fun k _ => by rw [row_low]) (Finset.sum_congr rfl fun k _ => by rw [row_high])
  rw [hs]
  refine congrArg₂ (· * ·) (congrArg₂ Ideal.div ?_ rfl) rfl
  by_cases h : l.val < 1792
  · rw [dif_pos h]
    exact (row_low x0 p ⟨l.val, h⟩).symm
  · rw [dif_neg h]
    refine Eq.trans ?_ ((row_high x0 p ⟨l.val - 1792, by omega⟩).symm.trans (congrArg (row x0 p) (Fin.ext ?_)))
    · rfl
    · show 1792 + (l.val - 1792) = l.val
      omega

/-- The maximum of a row's magnitudes. -/
theorem max_apply (y : FVec Ideal S256x3584 .f32) (p : Fin 256) (z : Fin 1) :
    shapeCast S256x1 (multiReduction (F := Ideal) .maximumf [1] S256 (absf y) 0xFF800000#32 reduces_S256x3584_S256 (.inl rfl) rfl)
      shapeCasts_S256_S256x1 (ix2 p z) = absMax fun l => y (ix2 p l) := by
  pointwise []
  rfl

theorem rep_row (y : FVec Ideal S256x1 .f32) (p : Fin 256) (l : Fin 3584) :
    broadcastTo S256x3584 y broadcasts_S256x1_S256x3584 (ix2 p l) = y (ix2 p 0) := by pointwise []

theorem scale_apply (v0 v2 : Vec Ideal S1x256x1792 .f32) (v15 : Vec Ideal S1x3584 .f32) (p : Fin 256) (z : Fin 1) :
    k0_pay5 (F := Ideal) v0 v2 v15 (ix2 p z) = rowScale fun l => k0_pay4 (F := Ideal) v0 v2 v15 (ix2 p l) :=
  (scale_vec _ (ix2 p z)).trans (congrArg scale (max_apply _ p z))

theorem code_apply (v0 v2 : Vec Ideal S1x256x1792 .f32) (v15 : Vec Ideal S1x3584 .f32) (p : Fin 256) (l : Fin 3584) :
    k0_pay6 (F := Ideal) v0 v2 v15 (ix2 p l) = rowCode (fun l => k0_pay4 (F := Ideal) v0 v2 v15 (ix2 p l)) l :=
  (code_vec _ _ (ix2 p l)).trans (congrArg (code _) ((rep_row _ p l).trans (scale_apply v0 v2 v15 p 0)))

theorem row_apply (v : FVec Ideal S256x1 .f32) (a b : Fin 1) (p : Fin 256) : k0_pay1 (F := Ideal) v (ix3 a b p) = v (ix2 p 0) := by
  pointwise [k0_pay1]

theorem rep_apply (v : FVec Ideal S256x1 .f32) (p : Fin 256) (l : Fin 128) : k0_pay2 (F := Ideal) v (ix2 p l) = v (ix2 p 0) := by
  pointwise [k0_pay2]

theorem low_rank_apply (v18 : FVec Ideal S256x3584 .f32) (v50 : Vec Ideal S3584x128 .bf16) (p : Fin 256) (l : Fin 128) :
    k0_pay3 (F := Ideal) v18 v50 (ix2 p l) = ∑ k : Fin 3584, v18 (ix2 p k) * v50 (ix2 k l) := by
  pointwise [k0_pay3]

section Blocks
variable (u : Vec Ideal S2x256x1792 .f32) (v : Vec Ideal S1x3584 .f32) (w : Vec Ideal S3584x128 .bf16) (p : Fin 256)

theorem scale_eq (z : Fin 1) : k0_pay7 (F := Ideal) u v w (ix2 p z) = rowScale (f u v p) :=
  (scale_apply _ _ _ p z).trans (congrArg rowScale (funext fun l => f_apply u v p l))

/-- The block of codes. -/
theorem codes_block (l : Fin 3584) : out0_3 (F := Ideal) u v w (ix2 p l) = rowCode (f u v p) l := by
  unfold out0_3
  canon_tiles x h
  idx_vars x
  obtain rfl := Fin.ext h0
  obtain rfl := Fin.ext h1
  exact (code_apply _ _ _ _ _).trans (congrArg (fun g => rowCode g l) (funext fun k => f_apply u v p k))

/-- The block of scales, one a row. -/
theorem row_block (a b : Fin 1) : out0_4 (F := Ideal) u v w (ix3 a b p) = rowScale (f u v p) := by
  unfold out0_4
  canon_tiles x h
  idx_vars x
  obtain rfl := Fin.ext h2
  exact (row_apply _ _ _ _).trans (scale_eq u v w p 0)

/-- The block of scales, each repeated along the lanes. -/
theorem rep_block (l : Fin 128) : out0_5 (F := Ideal) u v w (ix2 p l) = rowScale (f u v p) := by
  unfold out0_5
  canon_tiles x h
  idx_vars x
  obtain rfl := Fin.ext h0
  exact (rep_apply _ _ _).trans (scale_eq u v w p 0)

/-- The block of the low-rank product. -/
theorem low_rank_block (l : Fin 128) : out0_6 (F := Ideal) u v w (ix2 p l) = ∑ k : Fin 3584, f u v p k * w (ix2 k l) := by
  unfold out0_6
  canon_tiles x h
  idx_vars x
  obtain rfl := Fin.ext h0
  obtain rfl := Fin.ext h1
  refine (low_rank_apply _ _ _ _).trans (Finset.sum_congr rfl fun k _ => congrArg₂ (· * ·) (f_apply u v p k) ?_)
  pointwise []

end Blocks

end Cert.Proof.NormFfBlock
end
-- ==== Proof.NormFfReference.lean ====
/-
  WHAT THE REFERENCE OF THE FEED-FORWARD'S NORM COMPUTES, entry by entry.
-/
module

public import proofs.«01_k».proof.Proof.Quant
public import proofs.«01_k».proof.Proof.Gen.NormFfReferenceIdeal.Read
public import Idealize.ShloMosaic.Lib.Pointwise

@[expose] public section

set_option maxRecDepth 16384

noncomputable section

namespace Cert.Proof.NormFfReference

open Idealize.ShloMosaic Idealize.ShloMosaic.TcCoe Idealize.SL.Sem
open Cert.NormFfReferenceIdeal Cert.NormFfReferenceIdeal.Gen Cert.NormFfReferenceIdeal.Read Cert.Proof.Quant

variable (x0 : FVec Ideal S2x3072x1792 .f32) (x1 : FVec Ideal S3584 .f32) (x2 : FVec Ideal S3584x128 .bf16)

/-- Row `p`: its first half lies in the first plane, its second half in the second. -/
def row (p : Fin 3072) (l : Fin 3584) : EReal :=
  x0 (ix3 ⟨l.val / 1792, by omega⟩ p ⟨l.val % 1792, Nat.mod_lt _ (by decide)⟩)

/-- Row `p`, normed. -/
def f (p : Fin 3072) : Fin 3584 → EReal := normed 0x45600000#32 (row x0 p) fun l => x1 (ix1 l)

theorem row_apply (p : Fin 3072) (l : Fin 3584) : val_main_v1 (F := Ideal) x0 (ix2 p l) = row x0 p l := by
  pointwise [val_main_v1, val_main_v0]
  rfl

theorem f_apply (p : Fin 3072) (l : Fin 3584) : val_main_v14 (F := Ideal) x0 x1 (ix2 p l) = f x0 x1 p l := by
  pointwise [val_main_v14, val_main_v13, val_main_v12, val_main_v11, val_main_v10, val_main_v9, val_main_v8, val_main_v7, val_main_v6, val_main_v5,
    val_main_v4, val_main_v3, val_main_v2, val_main_cst, val_main_cst_0, val_main_cst_1]
  simp only [row_apply]
  rfl

theorem max_apply (p : Fin 3072) : val_main_v16 (F := Ideal) x0 x1 (ix1 p) = absMax (f x0 x1 p) := by
  have e : val_main_v16 (F := Ideal) x0 x1 (ix1 p) = Finset.fold max (Ideal.ofBits .f32 0xFF800000#32)
      (fun l : Fin 3584 => val_main_v15 (F := Ideal) x0 x1 (ix2 p l)) Finset.univ := by
    pointwise [val_main_v16, val_main_cst_2]
  rw [e, ← funext fun l => f_apply x0 x1 p l]
  rfl

theorem scale_apply (p : Fin 3072) : val_main_v21 (F := Ideal) x0 x1 (ix1 p) = rowScale (f x0 x1 p) := by
  rw [val_main_v21_apply, val_main_v18_apply, val_main_v20_apply, max_apply, val_main_v17_apply, val_main_v19_apply,
    val_main_call0_v1_apply, val_main_call0_v0_apply, val_main_cst_3_apply, val_main_cst_4_apply, val_main_cst_5_apply]
  exact reference_scale _

/-- The codes. -/
theorem code_apply (p : Fin 3072) (l : Fin 3584) : val_main_v28 (F := Ideal) x0 x1 (ix2 p l) = rowCode (f x0 x1 p) l := by
  have e : val_main_v23 (F := Ideal) x0 x1 (ix2 p l) = rowScale (f x0 x1 p) := by
    pointwise [val_main_v23, val_main_v22]
    exact scale_apply x0 x1 p
  rw [val_main_v28_apply, val_main_v27_apply, val_main_v26_apply, val_main_call2_v2_apply, val_main_v25_apply, val_main_v24_apply, e, f_apply,
    val_main_call2_v4_apply, val_main_call2_v3_apply, val_main_call2_v1_apply, val_main_call2_v0_apply, val_main_c_apply, val_main_c_6_apply]
  exact reference_code _ _

/-- The scales, by tiles of rows. -/
theorem row_scale_apply (i : Fin 12) (a : Fin 1) (p : Fin 256) :
    val_main_v32 (F := Ideal) x0 x1 (ix3 i a p) = rowScale (f x0 x1 ⟨i.val * 256 + p.val, by omega⟩) := by
  pointwise [val_main_v32]
  exact scale_apply x0 x1 _

/-- The scales, repeated along the lanes. -/
theorem rep_apply (p : Fin 3072) (l : Fin 128) : val_main_v34 (F := Ideal) x0 x1 (ix2 p l) = rowScale (f x0 x1 p) := by
  pointwise [val_main_v34, val_main_v33]
  exact scale_apply x0 x1 p

/-- The low-rank product. -/
theorem low_rank_apply (p : Fin 3072) (l : Fin 128) :
    val_main_v31 (F := Ideal) x0 x1 x2 (ix2 p l) = ∑ k : Fin 3584, f x0 x1 p k * x2 (ix2 k l) := by
  pointwise [val_main_v31, val_main_v30, val_main_v29]
  simp only [f_apply]

end Cert.Proof.NormFfReference
end
-- ==== Proof.NormFfValue.lean ====
/-
  THE EQUATION for the feed-forward's norm: the four arrays the kernel leaves (codes, scales in two layouts, low-rank product) are the
  reference's terms over the same arguments.
-/
module

public import proofs.«01_k».proof.Proof.NormFfBlock
public import proofs.«01_k».proof.Proof.NormFfReference
public import proofs.«01_k».proof.Proof.Gen.NormFfIdeal.Value
public import Idealize.ShloMosaic.Lib.Claim

@[expose] public section

set_option maxRecDepth 16384

noncomputable section

namespace Cert.Proof.NormFfValue

open Idealize.ShloMosaic Idealize.ShloMosaic.TcCoe Idealize.SL.Sem
open Cert.NormFfIdeal Cert.NormFfIdeal.Gen Cert.Proof.Quant

/-- Where every window's block lies at grid point `t`: rows `256 t`. -/
theorem idx : ∀ t : Fin cfg0.N, win0_0.index t = ![0, t.val, 0] ∧ win0_1.index t = ![0, 0] ∧ win0_2.index t = ![0, 0]
    ∧ win0_3.index t = ![t.val, 0] ∧ win0_4.index t = ![t.val, 0, 0] ∧ win0_5.index t = ![t.val, 0] ∧ win0_6.index t = ![t.val, 0] ∧ t.val < 12 :=
  (by decide +kernel : ∀ t : Fin grid0.N, _)

variable (m : (ℓ : Loc nD τ sig) → Buf (Elt Ideal) ℓ)

/-- The arguments of the run. -/
abbrev A0 (c : Dev nD) := m ((c : Thread nD τ).loc main_arg0)
abbrev A1 (c : Dev nD) := m ((c : Thread nD τ).loc main_arg1)
abbrev A2 (c : Dev nD) := m ((c : Thread nD τ).loc main_arg2)

/-- A normed row of a block is the reference's row `256 t + p`. -/
theorem f_eq (c : Dev nD) (t : Fin cfg0.N) (ht : t.val < 12) (p : Fin 256) :
    NormFfBlock.f (iblk m c 0 t) (iblk m c 1 t) p = NormFfReference.f (A0 m c) (A1 m c) ⟨t.val * 256 + p.val, by omega⟩ := by
  unfold NormFfBlock.f NormFfReference.f
  refine congrArg₂ (normed _) (funext fun l => ?_) (funext fun l => ?_)
  · unfold NormFfBlock.row NormFfReference.row
    blk_point [iblk, V, idx t]
  · blk_point [iblk, V, idx t]

/-- What grid point `t` writes, entry by entry. -/
theorem codes_point (c : Dev nD) (t : Fin cfg0.N) (ht : t.val < 12) (p : Fin 256) (l : Fin 3584) :
    out0_3 (F := Ideal) (iblk m c 0 t) (iblk m c 1 t) (iblk m c 2 t) (ix2 p l) = Cert.NormFfReferenceIdeal.Read.val_main_v28 (F := Ideal) (A0 m c) (A1 m c) (ix2 ⟨t.val * 256 + p.val, by omega⟩ l) :=
  (NormFfBlock.codes_block _ _ _ p l).trans ((congrArg (fun g => rowCode g l) (f_eq m c t ht p)).trans (NormFfReference.code_apply _ _ _ _).symm)

theorem rows_point (c : Dev nD) (t : Fin cfg0.N) (ht : t.val < 12) (a b : Fin 1) (p : Fin 256) :
    out0_4 (F := Ideal) (iblk m c 0 t) (iblk m c 1 t) (iblk m c 2 t) (ix3 a b p) = Cert.NormFfReferenceIdeal.Read.val_main_v32 (F := Ideal) (A0 m c) (A1 m c) (ix3 ⟨t.val, ht⟩ b p) :=
  (NormFfBlock.row_block _ _ _ p a b).trans ((congrArg rowScale (f_eq m c t ht p)).trans (NormFfReference.row_scale_apply _ _ ⟨t.val, ht⟩ b p).symm)

theorem rep_point (c : Dev nD) (t : Fin cfg0.N) (ht : t.val < 12) (p : Fin 256) (l : Fin 128) :
    out0_5 (F := Ideal) (iblk m c 0 t) (iblk m c 1 t) (iblk m c 2 t) (ix2 p l) = Cert.NormFfReferenceIdeal.Read.val_main_v34 (F := Ideal) (A0 m c) (A1 m c) (ix2 ⟨t.val * 256 + p.val, by omega⟩ l) :=
  (NormFfBlock.rep_block _ _ _ p l).trans ((congrArg rowScale (f_eq m c t ht p)).trans (NormFfReference.rep_apply _ _ _ l).symm)

theorem low_rank_point (c : Dev nD) (t : Fin cfg0.N) (ht : t.val < 12) (p : Fin 256) (l : Fin 128) :
    out0_6 (F := Ideal) (iblk m c 0 t) (iblk m c 1 t) (iblk m c 2 t) (ix2 p l)
      = Cert.NormFfReferenceIdeal.Read.val_main_v31 (F := Ideal) (A0 m c) (A1 m c) (A2 m c) (ix2 ⟨t.val * 256 + p.val, by omega⟩ l) := by
  refine (NormFfBlock.low_rank_block _ _ _ p l).trans (Eq.trans ?_ (NormFfReference.low_rank_apply _ _ _ ⟨t.val * 256 + p.val, by omega⟩ l).symm)
  refine Finset.sum_congr rfl fun k _ => congrArg₂ (· * ·) (congrFun (f_eq m c t ht p) k) ?_
  blk_point [iblk, V, idx t]

/-- The codes after the run. -/
theorem final_codes (c : Dev nD) : (dats m 0 c).arrAt 3 (cfgs 0).N = Cert.NormFfReferenceIdeal.Read.val_main_v28 (F := Ideal) (A0 m c) (A1 m c) := by
  refine (dats m 0 c).arrAt_eq_of_covers 3 _ (by decide +kernel) fun t _ y => ?_
  blk_simp
  rw [after0_3]
  obtain ⟨-, -, -, hi, -, -, -, ht⟩ := idx t
  have hy := eq_ix2 (show S256x3584.Idx from y)
  refine (congrArg (out0_3 (iblk m c 0 t) (iblk m c 1 t) (iblk m c 2 t)) hy).trans ((codes_point m c t ht _ _ ).trans (congrArg _ ?_))
  blk_ext [hi]

/-- The scales after the run, one a row. -/
theorem final_rows (c : Dev nD) : (dats m 0 c).arrAt 4 (cfgs 0).N = Cert.NormFfReferenceIdeal.Read.val_main_v32 (F := Ideal) (A0 m c) (A1 m c) := by
  refine (dats m 0 c).arrAt_eq_of_covers 4 _ (by decide +kernel) fun t _ y => ?_
  blk_simp
  rw [after0_4]
  obtain ⟨-, -, -, -, hi, -, -, ht⟩ := idx t
  have hy := eq_ix3 (show S1x1x256.Idx from y)
  refine (congrArg (out0_4 (iblk m c 0 t) (iblk m c 1 t) (iblk m c 2 t)) hy).trans ((rows_point m c t ht _ _ _ ).trans (congrArg _ ?_))
  blk_ext [hi]

/-- The scales after the run, each repeated along the lanes. -/
theorem final_rep (c : Dev nD) : (dats m 0 c).arrAt 5 (cfgs 0).N = Cert.NormFfReferenceIdeal.Read.val_main_v34 (F := Ideal) (A0 m c) (A1 m c) := by
  refine (dats m 0 c).arrAt_eq_of_covers 5 _ (by decide +kernel) fun t _ y => ?_
  blk_simp
  rw [after0_5]
  obtain ⟨-, -, -, -, -, hi, -, ht⟩ := idx t
  have hy := eq_ix2 (show S256x128.Idx from y)
  refine (congrArg (out0_5 (iblk m c 0 t) (iblk m c 1 t) (iblk m c 2 t)) hy).trans ((rep_point m c t ht _ _ ).trans (congrArg _ ?_))
  blk_ext [hi]

/-- The low-rank product after the run. -/
theorem final_low_rank (c : Dev nD) : (dats m 0 c).arrAt 6 (cfgs 0).N = Cert.NormFfReferenceIdeal.Read.val_main_v31 (F := Ideal) (A0 m c) (A1 m c) (A2 m c) := by
  refine (dats m 0 c).arrAt_eq_of_covers 6 _ (by decide +kernel) fun t _ y => ?_
  blk_simp
  rw [after0_6]
  obtain ⟨-, -, -, -, -, -, hi, ht⟩ := idx t
  have hy := eq_ix2 (show S256x128.Idx from y)
  refine (congrArg (out0_6 (iblk m c 0 t) (iblk m c 1 t) (iblk m c 2 t)) hy).trans ((low_rank_point m c t ht _ _ ).trans (congrArg _ ?_))
  blk_ext [hi]

end Cert.Proof.NormFfValue
end
-- ==== Proof.NormFfClaim.lean ====
/-
  THE CLAIMS ABOUT THE FEED-FORWARD'S NORM: the reference's frame and the equation of the results.
-/
module

public import proofs.«01_k».proof.Defs
public import proofs.«01_k».proof.Proof.NormFfValue
public import proofs.«01_k».proof.Proof.Gen.NormFfReferenceIdeal.Run

@[expose] public section

set_option maxRecDepth 16384

noncomputable section

namespace Cert.Proof.NormFfClaim

open Idealize.ShloMosaic Idealize.SL.Sem

/-- The reference ends with its arguments and semaphores as they were. -/
theorem reference_frame : quiescent_NormFfReferenceIdeal (hNormFfReferenceIdeal := Cert.NormFfReferenceIdeal.Gen.facts) := by
  intro m ρ _
  refine (θ_run _ _ _).mono (fun r h => ⟨fun c => (h c).2.2.2.2, funext fun g => ?_⟩) (Cert.NormFfReferenceIdeal.Value.run m ρ)
  exact ((by decide : ∀ _ : SemLoc Cert.NormFfReferenceIdeal.sig, False) g.2).elim

/-- Kernel and reference leave the same four arrays. -/
theorem equation : algebraic_NormFfIdeal_NormFfReferenceIdeal (hNormFfIdeal := Cert.NormFfIdeal.Gen.facts)
    (hNormFfReferenceIdeal := Cert.NormFfReferenceIdeal.Gen.facts) := by
  intro m g m' g' _ hagree
  refine ⟨fun c => (Cert.NormFfIdeal.Gen.dats m 0 c).arrAt 3 Cert.NormFfIdeal.cfg0.N,
    fun c => (Cert.NormFfIdeal.Gen.dats m 0 c).arrAt 4 Cert.NormFfIdeal.cfg0.N,
    fun c => (Cert.NormFfIdeal.Gen.dats m 0 c).arrAt 5 Cert.NormFfIdeal.cfg0.N,
    fun c => (Cert.NormFfIdeal.Gen.dats m 0 c).arrAt 6 Cert.NormFfIdeal.cfg0.N, Cert.NormFfIdeal.Value.run_blocks m g, ?_⟩
  refine (θ_run _ _ _).mono (fun r h c => ⟨(h c).1.trans ?_, (h c).2.1.trans ?_, (h c).2.2.1.trans ?_, (h c).2.2.2.1.trans ?_, (h c).2.2.2.2⟩)
    (Cert.NormFfReferenceIdeal.Value.run m' g')
  all_goals obtain ⟨h0, h1, h2⟩ := hagree c
  · refine (Cert.NormFfReferenceIdeal.Read.val_main_v28_eq (F := Ideal) m' c).trans ?_
    rw [h0, h1]
    exact (NormFfValue.final_codes m c).symm
  · refine (Cert.NormFfReferenceIdeal.Read.val_main_v32_eq (F := Ideal) _ _).trans ?_
    rw [h0, h1]
    exact (NormFfValue.final_rows m c).symm
  · refine (Cert.NormFfReferenceIdeal.Read.val_main_v34_eq (F := Ideal) _ _).trans ?_
    rw [h0, h1]
    exact (NormFfValue.final_rep m c).symm
  · refine (Cert.NormFfReferenceIdeal.Read.val_main_v31_eq (F := Ideal) _ _ _).trans ?_
    rw [h0, h1, h2]
    exact (NormFfValue.final_low_rank m c).symm

end Cert.Proof.NormFfClaim
end
-- ==== Proof.GateUpBlock.lean ====
/-
  WHAT ONE GRID POINT OF THE FEED-FORWARD'S FIRST PRODUCT WRITES, as a formula in the blocks it reads: two hundred and fifty-six
  columns of the gated product (each of gate and up: the int8 codes times the unpacked four-bit weights, times each row's scale, plus
  the low-rank product), and the lane maxima of their absolute values over the points so far.
-/
module

public import proofs.«01_k».proof.Proof.Nibble
public import proofs.«01_k».proof.Proof.Gen.GateUpIdeal.Frame
public import Idealize.ShloMosaic.Lib.Pipeline.ValueKit

@[expose] public section

set_option maxRecDepth 16384

noncomputable section

namespace Cert.Proof.GateUpBlock

open Idealize.ShloMosaic Idealize.ShloMosaic.TcCoe Idealize.SL.Sem
open Cert.GateUpIdeal Cert.GateUpIdeal.Gen Cert.Proof.Nibble

/-- The unpacked low halves: each byte's low number times its group's scale. -/
theorem low_apply (w : Vec Ideal S1792x256 .i8) (s : Vec Ideal S14x256 .f32) (p : Fin 1792) (l : Fin 256) :
    k0_pay4 (F := Ideal) w s (ix2 p l) = ((lowNibble (w (ix2 p l)) : ℝ) : EReal) * s (ix2 ⟨p.val / 128, by omega⟩ l) := by
  pointwise [k0_pay4, k0_pay3]
  rw [shifted_bytes, ofBits_sixteenth]
  show (((w (ix2 p l) <<< 4).toInt : ℝ) : EReal) * _ = _
  rw [shifted_toInt, sixteen_mul]

/-- The unpacked high halves: each byte's high number times its group's scale. -/
theorem high_apply (w : Vec Ideal S1792x256 .i8) (s : Vec Ideal S14x256 .f32) (p : Fin 1792) (l : Fin 256) :
    k0_pay5 (F := Ideal) w s (ix2 p l) = ((highNibble (w (ix2 p l)) : ℝ) : EReal) * s (ix2 ⟨p.val / 128, by omega⟩ l) := by
  pointwise [k0_pay5, k0_pay3]
  rw [masked_bytes, ofBits_sixteenth]
  show (((w (ix2 p l) &&& 0xF0#8).toInt : ℝ) : EReal) * _ = _
  rw [masked_toInt, sixteen_mul]

/-- The gate's activation times the up projection. -/
def gated (g u : EReal) : EReal :=
  Ideal.ofBits .f32 0x3F000000#32 * g * (1 + Ideal.erf (g * Ideal.ofBits .f32 0x3F3504F3#32)) * u

theorem tile_apply (lb : FVec Ideal S128x512 .bf16) (x : Vec Ideal S1024x3584 .i8) (w : Vec Ideal S3584x512 .bf16)
    (t : Vec Ideal S1024x128 .bf16) (s : Vec Ideal S1024x128 .f32) (p : Fin 1024) (l : Fin 256) :
    k0_pay11 (F := Ideal) lb x w t s (ix2 p l)
      = gated
        ((∑ k : Fin 3584, (((x (ix2 p k)).toInt : ℝ) : EReal) * w (ix2 k ⟨l.val, by omega⟩)) * s (ix2 p ⟨l.val % 128, Nat.mod_lt _ (by decide)⟩)
          + ∑ r : Fin 128, t (ix2 p r) * lb (ix2 r ⟨l.val, by omega⟩))
        ((∑ k : Fin 3584, (((x (ix2 p k)).toInt : ℝ) : EReal) * w (ix2 k ⟨256 + l.val, by omega⟩)) * s (ix2 p ⟨l.val % 128, Nat.mod_lt _ (by decide)⟩)
          + ∑ r : Fin 128, t (ix2 p r) * lb (ix2 r ⟨256 + l.val, by omega⟩)) := by
  pointwise [k0_pay11]
  unfold gated
  by_cases h : l.val < 128
  · have e : ∀ hl, (⟨l.val % 128, hl⟩ : Fin 128) = ⟨l.val, h⟩ := fun _ => Fin.ext (by show l.val % 128 = l.val; omega)
    rw [dif_neg (show ¬ 256 + l.val < 128 by omega), dif_neg (show ¬ 256 + l.val - 128 < 128 by omega),
      dif_pos (show 256 + l.val - 128 - 128 < 128 by omega)]
    have e2 : ∀ hl, (⟨256 + l.val - 128 - 128, hl⟩ : Fin 128) = ⟨l.val, h⟩ := fun _ => Fin.ext (by show 256 + l.val - 128 - 128 = l.val; omega)
    simp only [e, e2, dif_pos h]
    rfl
  · have h' : l.val - 128 < 128 := by omega
    have e : ∀ hl, (⟨l.val % 128, hl⟩ : Fin 128) = ⟨l.val - 128, h'⟩ := fun _ => Fin.ext (by show l.val % 128 = l.val - 128; omega)
    rw [dif_neg (show ¬ 256 + l.val < 128 by omega), dif_neg (show ¬ 256 + l.val - 128 < 128 by omega),
      dif_neg (show ¬ 256 + l.val - 128 - 128 < 128 by omega)]
    have e2 : ∀ hl, (⟨256 + l.val - 128 - 128 - 128, hl⟩ : Fin 128) = ⟨l.val - 128, h'⟩ :=
      fun _ => Fin.ext (by show 256 + l.val - 128 - 128 - 128 = l.val - 128; omega)
    simp only [e, e2, dif_neg h, dif_pos h']
    rfl

/-- A sum over the two halves of the contracted axis. -/
theorem sum_halves (x w : Fin 3584 → EReal) (lo hi : Fin 1792 → EReal)
    (hlo : ∀ k : Fin 1792, w ⟨k.val, by omega⟩ = lo k) (hhi : ∀ k : Fin 1792, w ⟨1792 + k.val, by omega⟩ = hi k) :
    ∑ k, x k * w k = (∑ k : Fin 1792, x ⟨k.val, by omega⟩ * lo k) + ∑ k : Fin 1792, x ⟨1792 + k.val, by omega⟩ * hi k := by
  rw [Fin.sum_univ_two_halves 1792 1792 rfl (fun k => x k * w k)]
  exact congrArg₂ (· + ·) (Finset.sum_congr rfl fun k _ => by rw [← hlo k]) (Finset.sum_congr rfl fun k _ => by rw [← hhi k])

/-- One of the two projections, gate or up, by its own blocks of weights, scales and low-rank factors: row `p`, column `l`. -/
def proj (x0 : Vec Ideal S3072x3584 .i8) (x1 : Vec Ideal S3072x128 .f32) (x2 : Vec Ideal S3072x128 .bf16)
    (w : Vec Ideal S1792x256 .i8) (s : Vec Ideal S28x256 .f32) (lb : Vec Ideal S128x256 .bf16) (p : Fin 3072) (l : Fin 256) : EReal :=
  ((∑ k : Fin 1792, (((x0 (ix2 p ⟨k.val, by omega⟩)).toInt : ℝ) : EReal)
        * (((lowNibble (w (ix2 k l)) : ℝ) : EReal) * s (ix2 ⟨k.val / 128, by omega⟩ l)))
    + ∑ k : Fin 1792, (((x0 (ix2 p ⟨1792 + k.val, by omega⟩)).toInt : ℝ) : EReal)
        * (((highNibble (w (ix2 k l)) : ℝ) : EReal) * s (ix2 ⟨14 + k.val / 128, by omega⟩ l)))
      * x1 (ix2 p ⟨l.val % 128, Nat.mod_lt _ (by decide)⟩)
    + ∑ r : Fin 128, x2 (ix2 p r) * lb (ix2 r l)

/-- THE BLOCK'S FORMULA: row `p`, column `l` of the block. -/
def entry (x0 : Vec Ideal S3072x3584 .i8) (x1 : Vec Ideal S3072x128 .f32) (x2 : Vec Ideal S3072x128 .bf16)
    (x3 x4 : Vec Ideal S1792x256 .i8) (x5 x6 : Vec Ideal S28x256 .f32) (x7 x8 : Vec Ideal S128x256 .bf16) (p : Fin 3072) (l : Fin 256) : EReal :=
  gated (proj x0 x1 x2 x3 x5 x7 p l) (proj x0 x1 x2 x4 x6 x8 p l)

/-- A row tile's new lane maxima: over the old ones and the tile's two blocks of 128 columns. -/
theorem lanes_apply (lb : FVec Ideal S128x512 .bf16) (x : Vec Ideal S1024x3584 .i8) (w : Vec Ideal S3584x512 .bf16)
    (t : Vec Ideal S1024x128 .bf16) (s : Vec Ideal S1024x128 .f32) (v : Vec Ideal S1024x128 .f32) (p : Fin 1024) (l : Fin 128) :
    k0_pay12 (F := Ideal) lb x w t s v (ix2 p l)
      = max (max (v (ix2 p l)) (FloatOps.absf (k0_pay11 (F := Ideal) lb x w t s (ix2 p ⟨l.val, by omega⟩))))
          (FloatOps.absf (k0_pay11 (F := Ideal) lb x w t s (ix2 p ⟨128 + l.val, by omega⟩))) := by
  pointwise [k0_pay12]

section Tile
variable (y0 : Vec Ideal S3072x3584 .i8) (y1 : Vec Ideal S3072x128 .f32) (y2 : Vec Ideal S3072x128 .bf16)
  (y3 y4 : Vec Ideal S1792x256 .i8) (y5 y6 : Vec Ideal S28x256 .f32) (y7 y8 : Vec Ideal S128x256 .bf16) (W : Vec Ideal S3584x512 .bf16)
  (hgl : ∀ (k : Fin 1792) (l : Fin 256), W (ix2 ⟨k.val, by omega⟩ ⟨l.val, by omega⟩)
      = ((lowNibble (y3 (ix2 k l)) : ℝ) : EReal) * y5 (ix2 ⟨k.val / 128, by omega⟩ l))
  (hgh : ∀ (k : Fin 1792) (l : Fin 256), W (ix2 ⟨1792 + k.val, by omega⟩ ⟨l.val, by omega⟩)
      = ((highNibble (y3 (ix2 k l)) : ℝ) : EReal) * y5 (ix2 ⟨14 + k.val / 128, by omega⟩ l))
  (hul : ∀ (k : Fin 1792) (l : Fin 256), W (ix2 ⟨k.val, by omega⟩ ⟨256 + l.val, by omega⟩)
      = ((lowNibble (y4 (ix2 k l)) : ℝ) : EReal) * y6 (ix2 ⟨k.val / 128, by omega⟩ l))
  (huh : ∀ (k : Fin 1792) (l : Fin 256), W (ix2 ⟨1792 + k.val, by omega⟩ ⟨256 + l.val, by omega⟩)
      = ((highNibble (y4 (ix2 k l)) : ℝ) : EReal) * y6 (ix2 ⟨14 + k.val / 128, by omega⟩ l))
  (x : Vec Ideal S1024x3584 .i8) (t : Vec Ideal S1024x128 .bf16) (s : Vec Ideal S1024x128 .f32) (o : Fin 1024 → Fin 3072)
  (hx : ∀ p k, x (ix2 p k) = y0 (ix2 (o p) k)) (hs : ∀ p l, s (ix2 p l) = y1 (ix2 (o p) l)) (ht : ∀ p l, t (ix2 p l) = y2 (ix2 (o p) l))
include hgl hgh hul huh hx hs ht

/-- A row tile that starts at row `o` of the block holds the formula's rows from `o` on. -/
theorem tile_entry (p : Fin 1024) (l : Fin 256) :
    k0_pay11 (F := Ideal) (k0_pay9 y7 y8) x W t s (ix2 p l) = entry y0 y1 y2 y3 y4 y5 y6 y7 y8 (o p) l := by
  have e7 : ∀ r : Fin 128, k0_pay9 (F := Ideal) y7 y8 (ix2 r ⟨l.val, by omega⟩) = y7 (ix2 r l) := fun r => by
    pointwise [k0_pay9]
  have e8 : ∀ r : Fin 128, k0_pay9 (F := Ideal) y7 y8 (ix2 r ⟨256 + l.val, by omega⟩) = y8 (ix2 r l) := fun r => by
    pointwise [k0_pay9]
  rw [tile_apply,
    sum_halves (fun k => (((x (ix2 p k)).toInt : ℝ) : EReal)) (fun k => W (ix2 k ⟨l.val, by omega⟩)) _ _ (fun k => hgl k l) (fun k => hgh k l),
    sum_halves (fun k => (((x (ix2 p k)).toInt : ℝ) : EReal)) (fun k => W (ix2 k ⟨256 + l.val, by omega⟩)) _ _ (fun k => hul k l) (fun k => huh k l)]
  unfold entry proj
  simp only [hx, hs, ht, e7, e8]

/-- Its new lane maxima are the old ones joined with the formula's two blocks of 128 columns. -/
theorem tile_lanes (v : Vec Ideal S1024x128 .f32) (z : Fin 3072 → Fin 128 → EReal) (hv : ∀ p l, v (ix2 p l) = z (o p) l) (p : Fin 1024) (l : Fin 128) :
    k0_pay12 (F := Ideal) (k0_pay9 y7 y8) x W t s v (ix2 p l)
      = max (max (z (o p) l) (FloatOps.absf (F := Ideal) (φ := .f32) (entry y0 y1 y2 y3 y4 y5 y6 y7 y8 (o p) ⟨l.val, by omega⟩)))
          (FloatOps.absf (F := Ideal) (φ := .f32) (entry y0 y1 y2 y3 y4 y5 y6 y7 y8 (o p) ⟨128 + l.val, by omega⟩)) := by
  rw [lanes_apply, tile_entry y0 y1 y2 y3 y4 y5 y6 y7 y8 W hgl hgh hul huh x t s o hx hs ht,
    tile_entry y0 y1 y2 y3 y4 y5 y6 y7 y8 W hgl hgh hul huh x t s o hx hs ht, hv]

end Tile

/-- Writes covered by later ones do not show. -/
theorem canon_drop {S : Shape} {e : EltTy} (L L' : List (View.Piece (Elt Ideal) S e)) (y : S.Idx) (h : ∃ p ∈ L, y ∈ p.1.set) :
    View.canon (L ++ L') y = View.canon L y := by
  induction L with
  | nil => obtain ⟨p, hp, _⟩ := h; simp at hp
  | cons p L ih =>
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      obtain ⟨q, hq, hyq⟩ := h
      rcases List.mem_cons.mp hq with rfl | hq'
      · exact absurd hyq hm
      · exact ih ⟨q, hq', hyq⟩

section Fill
variable (v : View sig .tc .vmem S3072x128 .f32) (w0 w1 w2 : Vec Ideal S1024x128 .f32) (p : Fin 1024) (l : Fin 128)

/-- Row tile 0 of the lane maxima, read before it is written, holds the zeros of the fill. -/
theorem fill_0 : v.readCov (Val := Elt Ideal) [⟨Rect.unit (s := S3072x128) ![0, 0] ![3072, 128] inb_S3072x128_S3072x128_0_0, k0_pay10 (F := Ideal)⟩]
    (Rect.unit (s := S3072x128) ![0, 0] ![1024, 128] inb_S3072x128_S1024x128_0_0).toLoadRect (ix2 p l) = (0 : EReal) := by
  rw [View.readCov_eq_canon']
  canon_tiles x h using ⟨⟨Rect.unit (s := S3072x128) ![0, 0] ![3072, 128] inb_S3072x128_S3072x128_0_0, k0_pay10 (F := Ideal)⟩, List.mem_cons_self, View.mem_set_unit_zero (by funext a; fin_cases a <;> rfl) inb_S3072x128_S3072x128_0_0 _⟩
  · pointwise [k0_pay10]

/-- Row tile 1 of the lane maxima, read before it is written, holds the zeros of the fill. -/
theorem fill_1 : v.readCov (Val := Elt Ideal) [⟨Rect.unit (s := S3072x128) ![0, 0] ![1024, 128] inb_S3072x128_S1024x128_0_0, w0⟩, ⟨Rect.unit (s := S3072x128) ![0, 0] ![3072, 128] inb_S3072x128_S3072x128_0_0, k0_pay10 (F := Ideal)⟩]
    (Rect.unit (s := S3072x128) ![1024, 0] ![1024, 128] inb_S3072x128_S1024x128_1024_0).toLoadRect (ix2 p l) = (0 : EReal) := by
  rw [View.readCov_eq_canon']
  canon_tiles x h using ⟨⟨Rect.unit (s := S3072x128) ![0, 0] ![3072, 128] inb_S3072x128_S3072x128_0_0, k0_pay10 (F := Ideal)⟩, (List.mem_cons_of_mem _ List.mem_cons_self), View.mem_set_unit_zero (by funext a; fin_cases a <;> rfl) inb_S3072x128_S3072x128_0_0 _⟩
  · simp only [Rect.idx_unit_val] at h0
    exact absurd (show 1024 + p.val = (x 0).val by simpa using h0) (by have := x0_lt; omega)
  · pointwise [k0_pay10]

/-- Row tile 2 of the lane maxima, read before it is written, holds the zeros of the fill. -/
theorem fill_2 : v.readCov (Val := Elt Ideal) [⟨Rect.unit (s := S3072x128) ![1024, 0] ![1024, 128] inb_S3072x128_S1024x128_1024_0, w1⟩, ⟨Rect.unit (s := S3072x128) ![0, 0] ![1024, 128] inb_S3072x128_S1024x128_0_0, w0⟩, ⟨Rect.unit (s := S3072x128) ![0, 0] ![3072, 128] inb_S3072x128_S3072x128_0_0, k0_pay10 (F := Ideal)⟩]
    (Rect.unit (s := S3072x128) ![2048, 0] ![1024, 128] inb_S3072x128_S1024x128_2048_0).toLoadRect (ix2 p l) = (0 : EReal) := by
  rw [View.readCov_eq_canon']
  canon_tiles x h using ⟨⟨Rect.unit (s := S3072x128) ![0, 0] ![3072, 128] inb_S3072x128_S3072x128_0_0, k0_pay10 (F := Ideal)⟩, (List.mem_cons_of_mem _ (List.mem_cons_of_mem _ List.mem_cons_self)), View.mem_set_unit_zero (by funext a; fin_cases a <;> rfl) inb_S3072x128_S3072x128_0_0 _⟩
  · simp only [Rect.idx_unit_val] at h0
    exact absurd (show 2048 + p.val = 1024 + (x 0).val by simpa using h0) (by have := x0_lt; omega)
  · simp only [Rect.idx_unit_val] at h0
    exact absurd (show 2048 + p.val = (x 0).val by simpa using h0) (by have := x0_lt; omega)
  · pointwise [k0_pay10]

/-- The three row tiles cover the fill. -/
theorem fill_covered (y : S3072x128.Idx) :
    View.canon (Val := Elt Ideal) (e := .f32) [⟨Rect.unit (s := S3072x128) ![2048, 0] ![1024, 128] inb_S3072x128_S1024x128_2048_0, w2⟩, ⟨Rect.unit (s := S3072x128) ![1024, 0] ![1024, 128] inb_S3072x128_S1024x128_1024_0, w1⟩, ⟨Rect.unit (s := S3072x128) ![0, 0] ![1024, 128] inb_S3072x128_S1024x128_0_0, w0⟩, ⟨Rect.unit (s := S3072x128) ![0, 0] ![3072, 128] inb_S3072x128_S3072x128_0_0, k0_pay10 (F := Ideal)⟩] y
      = View.canon (Val := Elt Ideal) (e := .f32) [⟨Rect.unit (s := S3072x128) ![2048, 0] ![1024, 128] inb_S3072x128_S1024x128_2048_0, w2⟩, ⟨Rect.unit (s := S3072x128) ![1024, 0] ![1024, 128] inb_S3072x128_S1024x128_1024_0, w1⟩, ⟨Rect.unit (s := S3072x128) ![0, 0] ![1024, 128] inb_S3072x128_S1024x128_0_0, w0⟩] y :=
  canon_drop [_, _, _] [_] _ (View.cover_of_tiled_head _ _ _ rfl _)

end Fill

variable (m : (ℓ : Loc nD τ sig) → Buf (Elt Ideal) ℓ)

/-- The projection's block after a run's first point. -/
theorem mid_A (c : Dev nD) (t : Fin cfg0.N) (h0 : t.val % 56 = 0) (n : Fin 3072) (q : Fin 256) :
    (outsAt0 m c t.val t.isLt).1 (ix2 n q) = entry (iblk m c 0 t) (iblk m c 1 t) (iblk m c 2 t) (iblk m c 3 t) (iblk m c 4 t)
      (iblk m c 5 t) (iblk m c 6 t) (iblk m c 7 t) (iblk m c 8 t) n q := by
  rw [outsAt0_A m c t h0]
  frame_out
  clear h0
  generalize hW : (View.whole cc0_scratch0).readCov (Val := Elt Ideal) _ _ = W
  generalize (iblk m c 0 t : Vec Ideal S3072x3584 .i8) = y0 at *
  generalize (iblk m c 1 t : Vec Ideal S3072x128 .f32) = y1 at *
  generalize (iblk m c 2 t : Vec Ideal S3072x128 .bf16) = y2 at *
  generalize (iblk m c 3 t : Vec Ideal S1792x256 .i8) = y3 at *
  generalize (iblk m c 4 t : Vec Ideal S1792x256 .i8) = y4 at *
  generalize (iblk m c 5 t : Vec Ideal S28x256 .f32) = y5 at *
  generalize (iblk m c 6 t : Vec Ideal S28x256 .f32) = y6 at *
  generalize (iblk m c 7 t : Vec Ideal S128x256 .bf16) = y7 at *
  generalize (iblk m c 8 t : Vec Ideal S128x256 .bf16) = y8 at *
  have hgl : ∀ (k : Fin 1792) (l : Fin 256), W (ix2 ⟨k.val, by omega⟩ ⟨l.val, by omega⟩)
      = ((lowNibble (y3 (ix2 k l)) : ℝ) : EReal) * y5 (ix2 ⟨k.val / 128, by omega⟩ l) := by
    intro k l
    rw [← hW, View.readCov_eq_canon']
    canon_tiles x h
    · simp only [Rect.idx_unit_val] at h0
      exact absurd (show k.val = 1792 + (x 0).val by simpa using h0) (by omega)
    · simp only [Rect.idx_unit_val] at h1
      exact absurd (show l.val = 256 + (x 1).val by simpa using h1) (by omega)
    · simp only [Rect.idx_unit_val] at h0
      exact absurd (show k.val = 1792 + (x 0).val by simpa using h0) (by omega)
    · have hx : x = ix2 k l := by
        simp only [Rect.idx_unit_val] at h0 h1
        idx_vars x
        exact congrArg₂ ix2 (Fin.ext (by simpa using h0.symm)) (Fin.ext (by simpa using h1.symm))
      rw [hx]
      refine (low_apply _ _ k l).trans ?_
      pointwise []
  have hgh : ∀ (k : Fin 1792) (l : Fin 256), W (ix2 ⟨1792 + k.val, by omega⟩ ⟨l.val, by omega⟩)
      = ((highNibble (y3 (ix2 k l)) : ℝ) : EReal) * y5 (ix2 ⟨14 + k.val / 128, by omega⟩ l) := by
    intro k l
    rw [← hW, View.readCov_eq_canon']
    canon_tiles x h
    · simp only [Rect.idx_unit_val] at h1
      exact absurd (show l.val = 256 + (x 1).val by simpa using h1) (by omega)
    · simp only [Rect.idx_unit_val] at h0
      exact absurd (show 1792 + k.val = (x 0).val by simpa using h0) (by omega)
    · have hx : x = ix2 k l := by
        simp only [Rect.idx_unit_val] at h0 h1
        idx_vars x
        exact congrArg₂ ix2 (Fin.ext (by simpa using h0.symm)) (Fin.ext (by simpa using h1.symm))
      rw [hx]
      refine (high_apply _ _ k l).trans ?_
      pointwise []
    · simp only [Rect.idx_unit_val] at h0
      exact absurd (show 1792 + k.val = (x 0).val by simpa using h0) (by omega)
  have hul : ∀ (k : Fin 1792) (l : Fin 256), W (ix2 ⟨k.val, by omega⟩ ⟨256 + l.val, by omega⟩)
      = ((lowNibble (y4 (ix2 k l)) : ℝ) : EReal) * y6 (ix2 ⟨k.val / 128, by omega⟩ l) := by
    intro k l
    rw [← hW, View.readCov_eq_canon']
    canon_tiles x h
    · simp only [Rect.idx_unit_val] at h0
      exact absurd (show k.val = 1792 + (x 0).val by simpa using h0) (by omega)
    · have hx : x = ix2 k l := by
        simp only [Rect.idx_unit_val] at h0 h1
        idx_vars x
        exact congrArg₂ ix2 (Fin.ext (by simpa using h0.symm)) (Fin.ext (by simpa using h1.symm))
      rw [hx]
      refine (low_apply _ _ k l).trans ?_
      pointwise []
    · simp only [Rect.idx_unit_val] at h0
      exact absurd (show k.val = 1792 + (x 0).val by simpa using h0) (by omega)
    · simp only [Rect.idx_unit_val] at h1
      exact absurd (show 256 + l.val = (x 1).val by simpa using h1) (by omega)
  have huh : ∀ (k : Fin 1792) (l : Fin 256), W (ix2 ⟨1792 + k.val, by omega⟩ ⟨256 + l.val, by omega⟩)
      = ((highNibble (y4 (ix2 k l)) : ℝ) : EReal) * y6 (ix2 ⟨14 + k.val / 128, by omega⟩ l) := by
    intro k l
    rw [← hW, View.readCov_eq_canon']
    canon_tiles x h
    · have hx : x = ix2 k l := by
        simp only [Rect.idx_unit_val] at h0 h1
        idx_vars x
        exact congrArg₂ ix2 (Fin.ext (by simpa using h0.symm)) (Fin.ext (by simpa using h1.symm))
      rw [hx]
      refine (high_apply _ _ k l).trans ?_
      pointwise []
    · simp only [Rect.idx_unit_val] at h0
      exact absurd (show 1792 + k.val = (x 0).val by simpa using h0) (by omega)
    · simp only [Rect.idx_unit_val] at h1
      exact absurd (show 256 + l.val = (x 1).val by simpa using h1) (by omega)
    · simp only [Rect.idx_unit_val] at h0
      exact absurd (show 1792 + k.val = (x 0).val by simpa using h0) (by omega)
  clear hW
  have e14 : ∀ x t s, k0_pay14 (F := Ideal) (k0_pay9 y7 y8) (k0_pay13 x) W t s = k0_pay11 (k0_pay9 y7 y8) x W t s := fun x t s => rfl
  have e1 : ∀ x t s, k0_pay1 (F := Ideal) (k0_pay16 x W) (k0_pay17 (k0_pay9 y7 y8) t) s = k0_pay11 (k0_pay9 y7 y8) x W t s := fun x t s => rfl
  have e15 : ∀ x t s v, k0_pay15 (F := Ideal) (k0_pay9 y7 y8) (k0_pay13 x) W t s v = k0_pay12 (k0_pay9 y7 y8) x W t s v := fun x t s v => rfl
  have e2 : ∀ x t s v, k0_pay2 (F := Ideal) (k0_pay16 x W) (k0_pay17 (k0_pay9 y7 y8) t) s v = k0_pay12 (k0_pay9 y7 y8) x W t s v := fun x t s v => rfl
  simp only [e14, e1]
  have tile := fun x t s (o : Fin 1024 → Fin 3072) hx hs ht p l => tile_entry y0 y1 y2 y3 y4 y5 y6 y7 y8 W hgl hgh hul huh x t s o hx hs ht p l
  canon_tiles x h
  all_goals idx_vars x
  case' piece0 => refine (tile _ _ _ (fun p => ⟨2048 + p.val, by omega⟩) ?_ ?_ ?_ _ _).trans ?_
  case' piece1 => refine (tile _ _ _ (fun p => ⟨1024 + p.val, by omega⟩) ?_ ?_ ?_ _ _).trans ?_
  case' piece2 => refine (tile _ _ _ (fun p => ⟨p.val, by omega⟩) ?_ ?_ ?_ _ _).trans ?_
  all_goals first
    | (intro p l; pointwise []; done)
    | (refine congrArg₂ (entry _ _ _ _ _ _ _ _ _) (Fin.ext ?_) (Fin.ext ?_) <;> (try dsimp only) <;> omega)

/-- The projection's block after a later point. -/
theorem mid_B (c : Dev nD) (t : Fin cfg0.N) (h0 : ¬ t.val % 56 = 0) (n : Fin 3072) (q : Fin 256) :
    (outsAt0 m c t.val t.isLt).1 (ix2 n q) = entry (iblk m c 0 t) (iblk m c 1 t) (iblk m c 2 t) (iblk m c 3 t) (iblk m c 4 t)
      (iblk m c 5 t) (iblk m c 6 t) (iblk m c 7 t) (iblk m c 8 t) n q := by
  rw [outsAt0_B m c t h0]
  frame_out
  clear h0
  generalize hW : (View.whole cc0_scratch0).readCov (Val := Elt Ideal) _ _ = W
  generalize (iblk m c 0 t : Vec Ideal S3072x3584 .i8) = y0 at *
  generalize (iblk m c 1 t : Vec Ideal S3072x128 .f32) = y1 at *
  generalize (iblk m c 2 t : Vec Ideal S3072x128 .bf16) = y2 at *
  generalize (iblk m c 3 t : Vec Ideal S1792x256 .i8) = y3 at *
  generalize (iblk m c 4 t : Vec Ideal S1792x256 .i8) = y4 at *
  generalize (iblk m c 5 t : Vec Ideal S28x256 .f32) = y5 at *
  generalize (iblk m c 6 t : Vec Ideal S28x256 .f32) = y6 at *
  generalize (iblk m c 7 t : Vec Ideal S128x256 .bf16) = y7 at *
  generalize (iblk m c 8 t : Vec Ideal S128x256 .bf16) = y8 at *
  have hgl : ∀ (k : Fin 1792) (l : Fin 256), W (ix2 ⟨k.val, by omega⟩ ⟨l.val, by omega⟩)
      = ((lowNibble (y3 (ix2 k l)) : ℝ) : EReal) * y5 (ix2 ⟨k.val / 128, by omega⟩ l) := by
    intro k l
    rw [← hW, View.readCov_eq_canon']
    canon_tiles x h
    · simp only [Rect.idx_unit_val] at h0
      exact absurd (show k.val = 1792 + (x 0).val by simpa using h0) (by omega)
    · simp only [Rect.idx_unit_val] at h1
      exact absurd (show l.val = 256 + (x 1).val by simpa using h1) (by omega)
    · simp only [Rect.idx_unit_val] at h0
      exact absurd (show k.val = 1792 + (x 0).val by simpa using h0) (by omega)
    · have hx : x = ix2 k l := by
        simp only [Rect.idx_unit_val] at h0 h1
        idx_vars x
        exact congrArg₂ ix2 (Fin.ext (by simpa using h0.symm)) (Fin.ext (by simpa using h1.symm))
      rw [hx]
      refine (low_apply _ _ k l).trans ?_
      pointwise []
  have hgh : ∀ (k : Fin 1792) (l : Fin 256), W (ix2 ⟨1792 + k.val, by omega⟩ ⟨l.val, by omega⟩)
      = ((highNibble (y3 (ix2 k l)) : ℝ) : EReal) * y5 (ix2 ⟨14 + k.val / 128, by omega⟩ l) := by
    intro k l
    rw [← hW, View.readCov_eq_canon']
    canon_tiles x h
    · simp only [Rect.idx_unit_val] at h1
      exact absurd (show l.val = 256 + (x 1).val by simpa using h1) (by omega)
    · simp only [Rect.idx_unit_val] at h0
      exact absurd (show 1792 + k.val = (x 0).val by simpa using h0) (by omega)
    · have hx : x = ix2 k l := by
        simp only [Rect.idx_unit_val] at h0 h1
        idx_vars x
        exact congrArg₂ ix2 (Fin.ext (by simpa using h0.symm)) (Fin.ext (by simpa using h1.symm))
      rw [hx]
      refine (high_apply _ _ k l).trans ?_
      pointwise []
    · simp only [Rect.idx_unit_val] at h0
      exact absurd (show 1792 + k.val = (x 0).val by simpa using h0) (by omega)
  have hul : ∀ (k : Fin 1792) (l : Fin 256), W (ix2 ⟨k.val, by omega⟩ ⟨256 + l.val, by omega⟩)
      = ((lowNibble (y4 (ix2 k l)) : ℝ) : EReal) * y6 (ix2 ⟨k.val / 128, by omega⟩ l) := by
    intro k l
    rw [← hW, View.readCov_eq_canon']
    canon_tiles x h
    · simp only [Rect.idx_unit_val] at h0
      exact absurd (show k.val = 1792 + (x 0).val by simpa using h0) (by omega)
    · have hx : x = ix2 k l := by
        simp only [Rect.idx_unit_val] at h0 h1
        idx_vars x
        exact congrArg₂ ix2 (Fin.ext (by simpa using h0.symm)) (Fin.ext (by simpa using h1.symm))
      rw [hx]
      refine (low_apply _ _ k l).trans ?_
      pointwise []
    · simp only [Rect.idx_unit_val] at h0
      exact absurd (show k.val = 1792 + (x 0).val by simpa using h0) (by omega)
    · simp only [Rect.idx_unit_val] at h1
      exact absurd (show 256 + l.val = (x 1).val by simpa using h1) (by omega)
  have huh : ∀ (k : Fin 1792) (l : Fin 256), W (ix2 ⟨1792 + k.val, by omega⟩ ⟨256 + l.val, by omega⟩)
      = ((highNibble (y4 (ix2 k l)) : ℝ) : EReal) * y6 (ix2 ⟨14 + k.val / 128, by omega⟩ l) := by
    intro k l
    rw [← hW, View.readCov_eq_canon']
    canon_tiles x h
    · have hx : x = ix2 k l := by
        simp only [Rect.idx_unit_val] at h0 h1
        idx_vars x
        exact congrArg₂ ix2 (Fin.ext (by simpa using h0.symm)) (Fin.ext (by simpa using h1.symm))
      rw [hx]
      refine (high_apply _ _ k l).trans ?_
      pointwise []
    · simp only [Rect.idx_unit_val] at h0
      exact absurd (show 1792 + k.val = (x 0).val by simpa using h0) (by omega)
    · simp only [Rect.idx_unit_val] at h1
      exact absurd (show 256 + l.val = (x 1).val by simpa using h1) (by omega)
    · simp only [Rect.idx_unit_val] at h0
      exact absurd (show 1792 + k.val = (x 0).val by simpa using h0) (by omega)
  clear hW
  have e14 : ∀ x t s, k0_pay14 (F := Ideal) (k0_pay9 y7 y8) (k0_pay13 x) W t s = k0_pay11 (k0_pay9 y7 y8) x W t s := fun x t s => rfl
  have e1 : ∀ x t s, k0_pay1 (F := Ideal) (k0_pay16 x W) (k0_pay17 (k0_pay9 y7 y8) t) s = k0_pay11 (k0_pay9 y7 y8) x W t s := fun x t s => rfl
  have e15 : ∀ x t s v, k0_pay15 (F := Ideal) (k0_pay9 y7 y8) (k0_pay13 x) W t s v = k0_pay12 (k0_pay9 y7 y8) x W t s v := fun x t s v => rfl
  have e2 : ∀ x t s v, k0_pay2 (F := Ideal) (k0_pay16 x W) (k0_pay17 (k0_pay9 y7 y8) t) s v = k0_pay12 (k0_pay9 y7 y8) x W t s v := fun x t s v => rfl
  simp only [e14, e1]
  have tile := fun x t s (o : Fin 1024 → Fin 3072) hx hs ht p l => tile_entry y0 y1 y2 y3 y4 y5 y6 y7 y8 W hgl hgh hul huh x t s o hx hs ht p l
  canon_tiles x h
  all_goals idx_vars x
  case' piece0 => refine (tile _ _ _ (fun p => ⟨2048 + p.val, by omega⟩) ?_ ?_ ?_ _ _).trans ?_
  case' piece1 => refine (tile _ _ _ (fun p => ⟨1024 + p.val, by omega⟩) ?_ ?_ ?_ _ _).trans ?_
  case' piece2 => refine (tile _ _ _ (fun p => ⟨p.val, by omega⟩) ?_ ?_ ?_ _ _).trans ?_
  all_goals first
    | (intro p l; pointwise []; done)
    | (refine congrArg₂ (entry _ _ _ _ _ _ _ _ _) (Fin.ext ?_) (Fin.ext ?_) <;> (try dsimp only) <;> omega)

/-- The same with the zeros the first point starts from named. -/
theorem lanes_first (z : Fin 3072 → Fin 128 → EReal) (hz : ∀ n q, z n q = 0) (c : Dev nD) (t : Fin cfg0.N) (h0 : t.val % 56 = 0) (n : Fin 3072) (q : Fin 128) :
    (outsAt0 m c t.val t.isLt).2 (ix2 n q) =
      max (max (z n q) (FloatOps.absf (F := Ideal) (φ := .f32) (entry (iblk m c 0 t) (iblk m c 1 t) (iblk m c 2 t) (iblk m c 3 t) (iblk m c 4 t)
          (iblk m c 5 t) (iblk m c 6 t) (iblk m c 7 t) (iblk m c 8 t) n ⟨q.val, by omega⟩)))
        (FloatOps.absf (F := Ideal) (φ := .f32) (entry (iblk m c 0 t) (iblk m c 1 t) (iblk m c 2 t) (iblk m c 3 t) (iblk m c 4 t)
          (iblk m c 5 t) (iblk m c 6 t) (iblk m c 7 t) (iblk m c 8 t) n ⟨128 + q.val, by omega⟩)) := by
  rw [outsAt0_A m c t h0]
  frame_out
  clear h0
  generalize hW : (View.whole cc0_scratch0).readCov (Val := Elt Ideal) _ _ = W
  generalize (iblk m c 0 t : Vec Ideal S3072x3584 .i8) = y0 at *
  generalize (iblk m c 1 t : Vec Ideal S3072x128 .f32) = y1 at *
  generalize (iblk m c 2 t : Vec Ideal S3072x128 .bf16) = y2 at *
  generalize (iblk m c 3 t : Vec Ideal S1792x256 .i8) = y3 at *
  generalize (iblk m c 4 t : Vec Ideal S1792x256 .i8) = y4 at *
  generalize (iblk m c 5 t : Vec Ideal S28x256 .f32) = y5 at *
  generalize (iblk m c 6 t : Vec Ideal S28x256 .f32) = y6 at *
  generalize (iblk m c 7 t : Vec Ideal S128x256 .bf16) = y7 at *
  generalize (iblk m c 8 t : Vec Ideal S128x256 .bf16) = y8 at *
  have hgl : ∀ (k : Fin 1792) (l : Fin 256), W (ix2 ⟨k.val, by omega⟩ ⟨l.val, by omega⟩)
      = ((lowNibble (y3 (ix2 k l)) : ℝ) : EReal) * y5 (ix2 ⟨k.val / 128, by omega⟩ l) := by
    intro k l
    rw [← hW, View.readCov_eq_canon']
    canon_tiles x h
    · simp only [Rect.idx_unit_val] at h0
      exact absurd (show k.val = 1792 + (x 0).val by simpa using h0) (by omega)
    · simp only [Rect.idx_unit_val] at h1
      exact absurd (show l.val = 256 + (x 1).val by simpa using h1) (by omega)
    · simp only [Rect.idx_unit_val] at h0
      exact absurd (show k.val = 1792 + (x 0).val by simpa using h0) (by omega)
    · have hx : x = ix2 k l := by
        simp only [Rect.idx_unit_val] at h0 h1
        idx_vars x
        exact congrArg₂ ix2 (Fin.ext (by simpa using h0.symm)) (Fin.ext (by simpa using h1.symm))
      rw [hx]
      refine (low_apply _ _ k l).trans ?_
      pointwise []
  have hgh : ∀ (k : Fin 1792) (l : Fin 256), W (ix2 ⟨1792 + k.val, by omega⟩ ⟨l.val, by omega⟩)
      = ((highNibble (y3 (ix2 k l)) : ℝ) : EReal) * y5 (ix2 ⟨14 + k.val / 128, by omega⟩ l) := by
    intro k l
    rw [← hW, View.readCov_eq_canon']
    canon_tiles x h
    · simp only [Rect.idx_unit_val] at h1
      exact absurd (show l.val = 256 + (x 1).val by simpa using h1) (by omega)
    · simp only [Rect.idx_unit_val] at h0
      exact absurd (show 1792 + k.val = (x 0).val by simpa using h0) (by omega)
    · have hx : x = ix2 k l := by
        simp only [Rect.idx_unit_val] at h0 h1
        idx_vars x
        exact congrArg₂ ix2 (Fin.ext (by simpa using h0.symm)) (Fin.ext (by simpa using h1.symm))
      rw [hx]
      refine (high_apply _ _ k l).trans ?_
      pointwise []
    · simp only [Rect.idx_unit_val] at h0
      exact absurd (show 1792 + k.val = (x 0).val by simpa using h0) (by omega)
  have hul : ∀ (k : Fin 1792) (l : Fin 256), W (ix2 ⟨k.val, by omega⟩ ⟨256 + l.val, by omega⟩)
      = ((lowNibble (y4 (ix2 k l)) : ℝ) : EReal) * y6 (ix2 ⟨k.val / 128, by omega⟩ l) := by
    intro k l
    rw [← hW, View.readCov_eq_canon']
    canon_tiles x h
    · simp only [Rect.idx_unit_val] at h0
      exact absurd (show k.val = 1792 + (x 0).val by simpa using h0) (by omega)
    · have hx : x = ix2 k l := by
        simp only [Rect.idx_unit_val] at h0 h1
        idx_vars x
        exact congrArg₂ ix2 (Fin.ext (by simpa using h0.symm)) (Fin.ext (by simpa using h1.symm))
      rw [hx]
      refine (low_apply _ _ k l).trans ?_
      pointwise []
    · simp only [Rect.idx_unit_val] at h0
      exact absurd (show k.val = 1792 + (x 0).val by simpa using h0) (by omega)
    · simp only [Rect.idx_unit_val] at h1
      exact absurd (show 256 + l.val = (x 1).val by simpa using h1) (by omega)
  have huh : ∀ (k : Fin 1792) (l : Fin 256), W (ix2 ⟨1792 + k.val, by omega⟩ ⟨256 + l.val, by omega⟩)
      = ((highNibble (y4 (ix2 k l)) : ℝ) : EReal) * y6 (ix2 ⟨14 + k.val / 128, by omega⟩ l) := by
    intro k l
    rw [← hW, View.readCov_eq_canon']
    canon_tiles x h
    · have hx : x = ix2 k l := by
        simp only [Rect.idx_unit_val] at h0 h1
        idx_vars x
        exact congrArg₂ ix2 (Fin.ext (by simpa using h0.symm)) (Fin.ext (by simpa using h1.symm))
      rw [hx]
      refine (high_apply _ _ k l).trans ?_
      pointwise []
    · simp only [Rect.idx_unit_val] at h0
      exact absurd (show 1792 + k.val = (x 0).val by simpa using h0) (by omega)
    · simp only [Rect.idx_unit_val] at h1
      exact absurd (show 256 + l.val = (x 1).val by simpa using h1) (by omega)
    · simp only [Rect.idx_unit_val] at h0
      exact absurd (show 1792 + k.val = (x 0).val by simpa using h0) (by omega)
  clear hW
  have e14 : ∀ x t s, k0_pay14 (F := Ideal) (k0_pay9 y7 y8) (k0_pay13 x) W t s = k0_pay11 (k0_pay9 y7 y8) x W t s := fun x t s => rfl
  have e1 : ∀ x t s, k0_pay1 (F := Ideal) (k0_pay16 x W) (k0_pay17 (k0_pay9 y7 y8) t) s = k0_pay11 (k0_pay9 y7 y8) x W t s := fun x t s => rfl
  have e15 : ∀ x t s v, k0_pay15 (F := Ideal) (k0_pay9 y7 y8) (k0_pay13 x) W t s v = k0_pay12 (k0_pay9 y7 y8) x W t s v := fun x t s v => rfl
  have e2 : ∀ x t s v, k0_pay2 (F := Ideal) (k0_pay16 x W) (k0_pay17 (k0_pay9 y7 y8) t) s v = k0_pay12 (k0_pay9 y7 y8) x W t s v := fun x t s v => rfl
  simp only [e15, e2]
  generalize e0 : (ms0_10 t).view.readCov (Val := Elt Ideal) [_] _ = v0
  generalize e1' : (ms0_10 t).view.readCov (Val := Elt Ideal) [_, _] _ = v1
  generalize e2' : (ms0_10 t).view.readCov (Val := Elt Ideal) [_, _, _] _ = v2
  have hv0 : ∀ p l, v0 (ix2 p l) = 0 := fun p l => by rw [← e0]; exact fill_0 _  p l
  have hv1 : ∀ p l, v1 (ix2 p l) = 0 := fun p l => by rw [← e1']; exact fill_1 _ _ p l
  have hv2 : ∀ p l, v2 (ix2 p l) = 0 := fun p l => by rw [← e2']; exact fill_2 _ _ _ p l
  have tile := fun x t s (v : Vec Ideal S1024x128 .f32) (o : Fin 1024 → Fin 3072) hx hs ht (hv : ∀ (p : Fin 1024) (l : Fin 128), v (ix2 p l) = (0 : EReal)) p l =>
    tile_lanes y0 y1 y2 y3 y4 y5 y6 y7 y8 W hgl hgh hul huh x t s o hx hs ht v z (fun p l => (hv p l).trans (hz _ _).symm) p l
  refine (fill_covered _ _ _ _).trans ?_
  canon_tiles x h
  all_goals idx_vars x
  case' piece0 => refine (tile _ _ _ _ (fun p => ⟨2048 + p.val, by omega⟩) ?_ ?_ ?_ ?_ _ _).trans ?_
  case' piece1 => refine (tile _ _ _ _ (fun p => ⟨1024 + p.val, by omega⟩) ?_ ?_ ?_ ?_ _ _).trans ?_
  case' piece2 => refine (tile _ _ _ _ (fun p => ⟨p.val, by omega⟩) ?_ ?_ ?_ ?_ _ _).trans ?_
  all_goals first
    | (intro p l; pointwise []; done) | exact hv0 | exact hv1 | exact hv2
    | (refine congrArg₂ (fun n q => max (max (z n q) (FloatOps.absf (F := Ideal) (φ := .f32) (entry y0 y1 y2 y3 y4 y5 y6 y7 y8 n ⟨q.val, by omega⟩)))
        (FloatOps.absf (F := Ideal) (φ := .f32) (entry y0 y1 y2 y3 y4 y5 y6 y7 y8 n ⟨128 + q.val, by omega⟩)))
        (x := ⟨_, _⟩) (x' := n) (y := _) (y' := q) (Fin.ext ?_) (Fin.ext ?_) <;> (try dsimp only) <;> omega)

/-- The projection's lane maxima after a run's first point. -/
theorem lanes_A (c : Dev nD) (t : Fin cfg0.N) (h0 : t.val % 56 = 0) (n : Fin 3072) (q : Fin 128) :
    (outsAt0 m c t.val t.isLt).2 (ix2 n q) =
      max (max (0 : EReal) (FloatOps.absf (F := Ideal) (φ := .f32) (entry (iblk m c 0 t) (iblk m c 1 t) (iblk m c 2 t) (iblk m c 3 t) (iblk m c 4 t)
          (iblk m c 5 t) (iblk m c 6 t) (iblk m c 7 t) (iblk m c 8 t) n ⟨q.val, by omega⟩)))
        (FloatOps.absf (F := Ideal) (φ := .f32) (entry (iblk m c 0 t) (iblk m c 1 t) (iblk m c 2 t) (iblk m c 3 t) (iblk m c 4 t)
          (iblk m c 5 t) (iblk m c 6 t) (iblk m c 7 t) (iblk m c 8 t) n ⟨128 + q.val, by omega⟩)) :=
  lanes_first m (fun _ _ => 0) (fun _ _ => rfl) c t h0 n q

/-- The projection's lane maxima after a later point. -/
theorem lanes_B (c : Dev nD) (t : Fin cfg0.N) (h0 : ¬ t.val % 56 = 0) (n : Fin 3072) (q : Fin 128) :
    (outsAt0 m c t.val t.isLt).2 (ix2 n q) =
      max (max ((outsAt0 m c (t.val - 1) (Nat.lt_of_le_of_lt (Nat.sub_le _ _) t.isLt)).2 (ix2 n q)) (FloatOps.absf (F := Ideal) (φ := .f32) (entry (iblk m c 0 t) (iblk m c 1 t) (iblk m c 2 t) (iblk m c 3 t) (iblk m c 4 t)
          (iblk m c 5 t) (iblk m c 6 t) (iblk m c 7 t) (iblk m c 8 t) n ⟨q.val, by omega⟩)))
        (FloatOps.absf (F := Ideal) (φ := .f32) (entry (iblk m c 0 t) (iblk m c 1 t) (iblk m c 2 t) (iblk m c 3 t) (iblk m c 4 t)
          (iblk m c 5 t) (iblk m c 6 t) (iblk m c 7 t) (iblk m c 8 t) n ⟨128 + q.val, by omega⟩)) := by
  rw [outsAt0_B m c t h0]
  frame_out
  clear h0
  generalize (outsAt0 m c (t.val - 1) _).2 = z
  generalize hW : (View.whole cc0_scratch0).readCov (Val := Elt Ideal) _ _ = W
  generalize (iblk m c 0 t : Vec Ideal S3072x3584 .i8) = y0 at *
  generalize (iblk m c 1 t : Vec Ideal S3072x128 .f32) = y1 at *
  generalize (iblk m c 2 t : Vec Ideal S3072x128 .bf16) = y2 at *
  generalize (iblk m c 3 t : Vec Ideal S1792x256 .i8) = y3 at *
  generalize (iblk m c 4 t : Vec Ideal S1792x256 .i8) = y4 at *
  generalize (iblk m c 5 t : Vec Ideal S28x256 .f32) = y5 at *
  generalize (iblk m c 6 t : Vec Ideal S28x256 .f32) = y6 at *
  generalize (iblk m c 7 t : Vec Ideal S128x256 .bf16) = y7 at *
  generalize (iblk m c 8 t : Vec Ideal S128x256 .bf16) = y8 at *
  have hgl : ∀ (k : Fin 1792) (l : Fin 256), W (ix2 ⟨k.val, by omega⟩ ⟨l.val, by omega⟩)
      = ((lowNibble (y3 (ix2 k l)) : ℝ) : EReal) * y5 (ix2 ⟨k.val / 128, by omega⟩ l) := by
    intro k l
    rw [← hW, View.readCov_eq_canon']
    canon_tiles x h
    · simp only [Rect.idx_unit_val] at h0
      exact absurd (show k.val = 1792 + (x 0).val by simpa using h0) (by omega)
    · simp only [Rect.idx_unit_val] at h1
      exact absurd (show l.val = 256 + (x 1).val by simpa using h1) (by omega)
    · simp only [Rect.idx_unit_val] at h0
      exact absurd (show k.val = 1792 + (x 0).val by simpa using h0) (by omega)
    · have hx : x = ix2 k l := by
        simp only [Rect.idx_unit_val] at h0 h1
        idx_vars x
        exact congrArg₂ ix2 (Fin.ext (by simpa using h0.symm)) (Fin.ext (by simpa using h1.symm))
      rw [hx]
      refine (low_apply _ _ k l).trans ?_
      pointwise []
  have hgh : ∀ (k : Fin 1792) (l : Fin 256), W (ix2 ⟨1792 + k.val, by omega⟩ ⟨l.val, by omega⟩)
      = ((highNibble (y3 (ix2 k l)) : ℝ) : EReal) * y5 (ix2 ⟨14 + k.val / 128, by omega⟩ l) := by
    intro k l
    rw [← hW, View.readCov_eq_canon']
    canon_tiles x h
    · simp only [Rect.idx_unit_val] at h1
      exact absurd (show l.val = 256 + (x 1).val by simpa using h1) (by omega)
    · simp only [Rect.idx_unit_val] at h0
      exact absurd (show 1792 + k.val = (x 0).val by simpa using h0) (by omega)
    · have hx : x = ix2 k l := by
        simp only [Rect.idx_unit_val] at h0 h1
        idx_vars x
        exact congrArg₂ ix2 (Fin.ext (by simpa using h0.symm)) (Fin.ext (by simpa using h1.symm))
      rw [hx]
      refine (high_apply _ _ k l).trans ?_
      pointwise []
    · simp only [Rect.idx_unit_val] at h0
      exact absurd (show 1792 + k.val = (x 0).val by simpa using h0) (by omega)
  have hul : ∀ (k : Fin 1792) (l : Fin 256), W (ix2 ⟨k.val, by omega⟩ ⟨256 + l.val, by omega⟩)
      = ((lowNibble (y4 (ix2 k l)) : ℝ) : EReal) * y6 (ix2 ⟨k.val / 128, by omega⟩ l) := by
    intro k l
    rw [← hW, View.readCov_eq_canon']
    canon_tiles x h
    · simp only [Rect.idx_unit_val] at h0
      exact absurd (show k.val = 1792 + (x 0).val by simpa using h0) (by omega)
    · have hx : x = ix2 k l := by
        simp only [Rect.idx_unit_val] at h0 h1
        idx_vars x
        exact congrArg₂ ix2 (Fin.ext (by simpa using h0.symm)) (Fin.ext (by simpa using h1.symm))
      rw [hx]
      refine (low_apply _ _ k l).trans ?_
      pointwise []
    · simp only [Rect.idx_unit_val] at h0
      exact absurd (show k.val = 1792 + (x 0).val by simpa using h0) (by omega)
    · simp only [Rect.idx_unit_val] at h1
      exact absurd (show 256 + l.val = (x 1).val by simpa using h1) (by omega)
  have huh : ∀ (k : Fin 1792) (l : Fin 256), W (ix2 ⟨1792 + k.val, by omega⟩ ⟨256 + l.val, by omega⟩)
      = ((highNibble (y4 (ix2 k l)) : ℝ) : EReal) * y6 (ix2 ⟨14 + k.val / 128, by omega⟩ l) := by
    intro k l
    rw [← hW, View.readCov_eq_canon']
    canon_tiles x h
    · have hx : x = ix2 k l := by
        simp only [Rect.idx_unit_val] at h0 h1
        idx_vars x
        exact congrArg₂ ix2 (Fin.ext (by simpa using h0.symm)) (Fin.ext (by simpa using h1.symm))
      rw [hx]
      refine (high_apply _ _ k l).trans ?_
      pointwise []
    · simp only [Rect.idx_unit_val] at h0
      exact absurd (show 1792 + k.val = (x 0).val by simpa using h0) (by omega)
    · simp only [Rect.idx_unit_val] at h1
      exact absurd (show 256 + l.val = (x 1).val by simpa using h1) (by omega)
    · simp only [Rect.idx_unit_val] at h0
      exact absurd (show 1792 + k.val = (x 0).val by simpa using h0) (by omega)
  clear hW
  have e14 : ∀ x t s, k0_pay14 (F := Ideal) (k0_pay9 y7 y8) (k0_pay13 x) W t s = k0_pay11 (k0_pay9 y7 y8) x W t s := fun x t s => rfl
  have e1 : ∀ x t s, k0_pay1 (F := Ideal) (k0_pay16 x W) (k0_pay17 (k0_pay9 y7 y8) t) s = k0_pay11 (k0_pay9 y7 y8) x W t s := fun x t s => rfl
  have e15 : ∀ x t s v, k0_pay15 (F := Ideal) (k0_pay9 y7 y8) (k0_pay13 x) W t s v = k0_pay12 (k0_pay9 y7 y8) x W t s v := fun x t s v => rfl
  have e2 : ∀ x t s v, k0_pay2 (F := Ideal) (k0_pay16 x W) (k0_pay17 (k0_pay9 y7 y8) t) s v = k0_pay12 (k0_pay9 y7 y8) x W t s v := fun x t s v => rfl
  simp only [e15, e2]
  have tile := fun x t s v (o : Fin 1024 → Fin 3072) hx hs ht hv p l =>
    tile_lanes y0 y1 y2 y3 y4 y5 y6 y7 y8 W hgl hgh hul huh x t s o hx hs ht v (fun p l => z (ix2 p l)) hv p l
  canon_tiles x h
  all_goals idx_vars x
  case' piece0 => refine (tile _ _ _ _ (fun p => ⟨2048 + p.val, by omega⟩) ?_ ?_ ?_ ?_ _ _).trans ?_
  case' piece1 => refine (tile _ _ _ _ (fun p => ⟨1024 + p.val, by omega⟩) ?_ ?_ ?_ ?_ _ _).trans ?_
  case' piece2 => refine (tile _ _ _ _ (fun p => ⟨p.val, by omega⟩) ?_ ?_ ?_ ?_ _ _).trans ?_
  all_goals first
    | (intro p l; pointwise []; done)
    | (refine congrArg₂ (fun n q => max (max ((fun p l => z (ix2 p l)) n q) (FloatOps.absf (F := Ideal) (φ := .f32) (entry y0 y1 y2 y3 y4 y5 y6 y7 y8 n ⟨q.val, by omega⟩)))
        (FloatOps.absf (F := Ideal) (φ := .f32) (entry y0 y1 y2 y3 y4 y5 y6 y7 y8 n ⟨128 + q.val, by omega⟩)))
        (x := ⟨_, _⟩) (x' := n) (y := _) (y' := q) (Fin.ext ?_) (Fin.ext ?_) <;> (try dsimp only) <;> omega)

end Cert.Proof.GateUpBlock
end
-- ==== Proof.GateUpReference.lean ====
/-
  WHAT THE REFERENCE OF THE FEED-FORWARD'S FIRST PRODUCT COMPUTES, entry by entry.
-/
module

public import proofs.«01_k».proof.Proof.GateUpBlock
public import proofs.«01_k».proof.Proof.Gen.GateUpReferenceIdeal.Read
public import Idealize.ShloMosaic.Lib.Pointwise

@[expose] public section

set_option maxRecDepth 16384

noncomputable section

namespace Cert.Proof.GateUpReference

open Idealize.ShloMosaic Idealize.ShloMosaic.TcCoe Idealize.SL.Sem
open Cert.GateUpReferenceIdeal Cert.GateUpReferenceIdeal.Gen Cert.GateUpReferenceIdeal.Read Cert.Proof.Nibble
open Cert.Proof.GateUpBlock (gated)

/-- The low weights of the reference: each byte's low number times its group's scale. -/
theorem low_apply (x3 : IVec S1792x28672 8) (x4 : FVec Ideal S28x28672 .f32) (k : Fin 1792) (n : Fin 28672) :
    val_main_v24 (F := Ideal) x3 x4 (ix2 k n) = ((lowNibble (x3 (ix2 k n)) : ℝ) : EReal) * x4 (ix2 ⟨k.val / 128, by omega⟩ n) := by
  pointwise [val_main_v24, val_main_v23, val_main_v22, val_main_v21, val_main_v20, val_main_v19, val_main_v18, val_main_v17, val_main_v11, val_main_v10, val_main_v9, val_main_v8, val_main_v7, val_main_v2, val_main_v1, val_main_v0, val_main_c, val_main_c_2, val_main_c_3]
  exact congrArg (· * _) (congrArg (fun z : ℤ => ((z : ℝ) : EReal)) (low_select _))

/-- The high weights of the reference: each byte's high number times its group's scale. -/
theorem high_apply (x3 : IVec S1792x28672 8) (x4 : FVec Ideal S28x28672 .f32) (k : Fin 1792) (n : Fin 28672) :
    val_main_v32 (F := Ideal) x3 x4 (ix2 k n) = ((highNibble (x3 (ix2 k n)) : ℝ) : EReal) * x4 (ix2 ⟨14 + k.val / 128, by omega⟩ n) := by
  pointwise [val_main_v32, val_main_v31, val_main_v30, val_main_v29, val_main_v28, val_main_v27, val_main_v26, val_main_v25, val_main_v16, val_main_v15, val_main_v14, val_main_v13, val_main_v12, val_main_v6, val_main_v5, val_main_v4, val_main_v3, val_main_v0, val_main_c_0, val_main_c_1, val_main_c_4, val_main_c_5]
  exact congrArg (· * _) (congrArg (fun z : ℤ => ((z : ℝ) : EReal)) (high_select _))

variable (x0 : IVec S3072x3584 8) (x1 : FVec Ideal S3072 .f32) (x2 : FVec Ideal S3072x128 .bf16) (x3 : IVec S1792x28672 8)
  (x4 : FVec Ideal S28x28672 .f32) (x5 : FVec Ideal S128x28672 .bf16)

/-- One entry of the reference's projection. -/
def refProj (p : Fin 3072) (n : Fin 28672) : EReal :=
  ((∑ k : Fin 1792, (((x0 (ix2 p ⟨k.val, by omega⟩)).toInt : ℝ) : EReal)
        * (((lowNibble (x3 (ix2 k n)) : ℝ) : EReal) * x4 (ix2 ⟨k.val / 128, by omega⟩ n)))
    + ∑ k : Fin 1792, (((x0 (ix2 p ⟨1792 + k.val, by omega⟩)).toInt : ℝ) : EReal)
        * (((highNibble (x3 (ix2 k n)) : ℝ) : EReal) * x4 (ix2 ⟨14 + k.val / 128, by omega⟩ n)))
      * x1 (ix1 p)
    + ∑ r : Fin 128, x2 (ix2 p r) * x5 (ix2 r n)

theorem proj_apply (p : Fin 3072) (n : Fin 28672) :
    val_main_v44 (F := Ideal) x0 x1 x2 x3 x4 x5 (ix2 p n) = refProj x0 x1 x2 x3 x4 x5 p n := by
  pointwise [val_main_v44, val_main_v43, val_main_v42, val_main_v41, val_main_v40, val_main_v39, val_main_v38, val_main_v37, val_main_v36, val_main_v35, val_main_v34, val_main_v33]
  simp only [widened, low_apply, high_apply]
  rfl

/-- The gate's activation of the reference is the kernel's. -/
theorem gated_eq (g u : EReal) :
    FloatOps.mulf (F := Ideal) (φ := .f32) (FloatOps.mulf (F := Ideal) (φ := .f32) (FloatOps.mulf (F := Ideal) (φ := .f32) (Ideal.ofBits .f32 0x3F000000#32) g)
      (FloatOps.hostUnary (F := Ideal) (φ := .f32) .erfc (FloatOps.mulf (F := Ideal) (φ := .f32) (FloatOps.hostNegf (F := Ideal) (φ := .f32) g) (Ideal.ofBits .f32 0x3F3504F3#32)))) u
      = gated g u := by
  simp only [Ideal.mulf_def, Ideal.hostUnary_erfc_def, Ideal.hostNegf_def, Ideal.negf_def, neg_mul, Ideal.erfc_neg]
  rfl

/-- One entry of the gated product. -/
theorem mid_apply (p : Fin 3072) (n : Fin 14336) :
    val_main_v54 (F := Ideal) x0 x1 x2 x3 x4 x5 (ix2 p n)
      = gated (refProj x0 x1 x2 x3 x4 x5 p ⟨n.val, by omega⟩) (refProj x0 x1 x2 x3 x4 x5 p ⟨14336 + n.val, by omega⟩) := by
  rw [val_main_v54_apply, val_main_v52_apply, val_main_v51_apply, val_main_v50_apply, val_main_v49_apply, val_main_v48_apply, val_main_v47_apply, val_main_v46_apply,
    val_main_cst_apply, val_main_cst_6_apply]
  have e : val_main_v45 (F := Ideal) x0 x1 x2 x3 x4 x5 (ix2 p n) = refProj x0 x1 x2 x3 x4 x5 p ⟨n.val, by omega⟩ := by
    pointwise [val_main_v45]; exact proj_apply ..
  have e' : val_main_v53 (F := Ideal) x0 x1 x2 x3 x4 x5 (ix2 p n) = refProj x0 x1 x2 x3 x4 x5 p ⟨14336 + n.val, by omega⟩ := by
    pointwise [val_main_v53]; exact proj_apply ..
  rw [e, e']
  exact gated_eq _ _

/-- The reference's lane maximum, by what bounds it: every entry of the row whose column falls in the lane. -/
theorem max_le (p : Fin 3072) (q : Fin 128) (z : EReal) :
    val_main_v57 (F := Ideal) x0 x1 x2 x3 x4 x5 (ix2 p q) ≤ z
      ↔ ∀ b : Fin 112, FloatOps.absf (F := Ideal) (φ := .f32) (val_main_v54 (F := Ideal) x0 x1 x2 x3 x4 x5 (ix2 p ⟨b.val * 128 + q.val, by omega⟩)) ≤ z := by
  have e : val_main_v57 (F := Ideal) x0 x1 x2 x3 x4 x5 (ix2 p q) = Finset.fold max (Ideal.ofBits .f32 0xFF800000#32)
      (fun b : Fin 112 => val_main_v56 (F := Ideal) x0 x1 x2 x3 x4 x5 (ix3 p b q)) Finset.univ := by
    pointwise [val_main_v57, val_main_cst_7]
  have e' : ∀ b : Fin 112, val_main_v56 (F := Ideal) x0 x1 x2 x3 x4 x5 (ix3 p b q)
      = FloatOps.absf (F := Ideal) (φ := .f32) (val_main_v54 (F := Ideal) x0 x1 x2 x3 x4 x5 (ix2 p ⟨b.val * 128 + q.val, by omega⟩)) := by
    intro b
    pointwise [val_main_v56, val_main_v55]
  rw [e, Finset.fold_max_le]
  simp only [e']
  have b : Ideal.ofBits .f32 0xFF800000#32 = (⊥ : EReal) := by simp [Ideal.ofBits, Ideal.ieee]
  rw [b]
  simp

end Cert.Proof.GateUpReference
end
-- ==== Proof.GateUpValue.lean ====
/-
  THE EQUATION for the feed-forward's first product: the two arrays the kernel leaves (the gated product and its lane maxima) are the
  reference's terms over the same arguments.
-/
module

public import proofs.«01_k».proof.Proof.GateUpReference
public import proofs.«01_k».proof.Proof.Gen.GateUpIdeal.Value
public import Idealize.ShloMosaic.Lib.Claim

@[expose] public section

set_option maxRecDepth 16384

noncomputable section

namespace Cert.Proof.GateUpValue

open Idealize.ShloMosaic Idealize.ShloMosaic.TcCoe Idealize.SL.Sem
open Cert.GateUpIdeal Cert.GateUpIdeal.Gen
open Cert.Proof.GateUpReference (refProj)
open Cert.Proof.GateUpBlock (proj entry gated)

/-- Where every window's block lies at grid point `t`: columns `256 t`, those of the up projection fifty-six blocks further on. -/
theorem idx : ∀ t : Fin cfg0.N, win0_0.index t = ![0, 0] ∧ win0_1.index t = ![0, 0] ∧ win0_2.index t = ![0, 0]
    ∧ win0_3.index t = ![0, t.val] ∧ win0_4.index t = ![0, 56 + t.val] ∧ win0_5.index t = ![0, t.val] ∧ win0_6.index t = ![0, 56 + t.val]
    ∧ win0_7.index t = ![0, t.val] ∧ win0_8.index t = ![0, 56 + t.val] ∧ win0_9.index t = ![0, t.val] ∧ win0_10.index t = ![0, 0] ∧ t.val < 56 :=
  (by decide +kernel : ∀ t : Fin grid0.N, _)

variable (m : (ℓ : Loc nD τ sig) → Buf (Elt Ideal) ℓ)

/-- The reference's gated product over the run's arguments. -/
abbrev mid (c : Dev nD) := Cert.GateUpReferenceIdeal.Read.val_main_v54 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) (m ((c : Thread nD τ).loc main_arg5))

/-- The reference's lane maxima over the run's arguments. -/
abbrev lanes (c : Dev nD) := Cert.GateUpReferenceIdeal.Read.val_main_v57 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) (m ((c : Thread nD τ).loc main_arg5))

/-- The gate's projection in a block is the reference's at column `256 t + q`. -/
theorem gate_eq (c : Dev nD) (t : Fin cfg0.N) (ht : t.val < 56) (n : Fin 3072) (q : Fin 256) :
    proj (iblk m c 0 t) (iblk m c 1 t) (iblk m c 2 t) (iblk m c 3 t) (iblk m c 5 t) (iblk m c 7 t) n q
      = refProj (m ((c : Thread nD τ).loc main_arg0)) (m ((c : Thread nD τ).loc main_arg1))
        (m ((c : Thread nD τ).loc main_arg2)) (m ((c : Thread nD τ).loc main_arg3)) (m ((c : Thread nD τ).loc main_arg4)) (m ((c : Thread nD τ).loc main_arg5))
          n ⟨t.val * 256 + q.val, by omega⟩ := by
  unfold proj refProj
  blk_point [iblk, V, idx t]

/-- The up projection in a block is the reference's at column `14336 + 256 t + q`. -/
theorem up_eq (c : Dev nD) (t : Fin cfg0.N) (ht : t.val < 56) (n : Fin 3072) (q : Fin 256) :
    proj (iblk m c 0 t) (iblk m c 1 t) (iblk m c 2 t) (iblk m c 4 t) (iblk m c 6 t) (iblk m c 8 t) n q
      = refProj (m ((c : Thread nD τ).loc main_arg0)) (m ((c : Thread nD τ).loc main_arg1))
        (m ((c : Thread nD τ).loc main_arg2)) (m ((c : Thread nD τ).loc main_arg3)) (m ((c : Thread nD τ).loc main_arg4)) (m ((c : Thread nD τ).loc main_arg5))
          n ⟨14336 + (t.val * 256 + q.val), by omega⟩ := by
  unfold proj refProj
  blk_point [iblk, V, idx t]

/-- A block's entry is the reference's gated product at column `256 t + q`. -/
theorem entry_eq (c : Dev nD) (t : Fin cfg0.N) (ht : t.val < 56) (n : Fin 3072) (q : Fin 256) :
    entry (iblk m c 0 t) (iblk m c 1 t) (iblk m c 2 t) (iblk m c 3 t) (iblk m c 4 t) (iblk m c 5 t) (iblk m c 6 t) (iblk m c 7 t) (iblk m c 8 t) n q
      = mid m c (ix2 n ⟨t.val * 256 + q.val, by omega⟩) := by
  refine Eq.trans ?_ (GateUpReference.mid_apply _ _ _ _ _ _ n ⟨t.val * 256 + q.val, by omega⟩).symm
  unfold entry
  exact congrArg₂ gated (gate_eq m c t ht n q) (up_eq m c t ht n q)

/-- One entry of the block of the gated product that grid point `t` writes. -/
theorem point (c : Dev nD) (t : Fin cfg0.N) (ht : t.val < 56) (n : Fin 3072) (q : Fin 256) :
    (outsAt0 m c t.val t.isLt).1 (ix2 n q) = mid m c (ix2 n ⟨t.val * 256 + q.val, by omega⟩) := by
  by_cases h0 : t.val % 56 = 0
  · exact (GateUpBlock.mid_A m c t h0 n q).trans (entry_eq m c t ht n q)
  · exact (GateUpBlock.mid_B m c t h0 n q).trans (entry_eq m c t ht n q)

/-- The gated product after the run. -/
theorem final (c : Dev nD) : (dats m 0 c).arrAt 9 (cfgs 0).N = mid m c := by
  refine (dats m 0 c).arrAt_eq_of_covers 9 _ (by decide +kernel) fun t _ y => ?_
  blk_simp
  rw [after0_9]
  obtain ⟨-, -, -, -, -, -, -, -, -, hi, -, ht⟩ := idx t
  have hy := eq_ix2 (show S3072x256.Idx from y)
  refine (congrArg (outsAt0 m c t.val t.isLt).1 hy).trans ((point m c t ht _ _).trans (congrArg _ ?_))
  blk_ext [hi]

/-- A magnitude is not negative. -/
theorem absf_nonneg (z : EReal) : (0 : EReal) ≤ FloatOps.absf (F := Ideal) (φ := .f32) z := by
  show (0 : EReal) ≤ max z (-z)
  rcases le_total 0 z with h | h
  · exact h.trans (le_max_left _ _)
  · exact (EReal.neg_nonneg.mpr h).trans (le_max_right _ _)

/-- The lane maxima after grid point `t`, by what bounds them: every entry so far whose column falls in the lane. -/
theorem lanes_le (c : Dev nD) (p : Fin 3072) (q : Fin 128) (z : EReal) : ∀ (k : Nat) (hk : k < cfg0.N) (_ : k < 56),
    ((outsAt0 m c k hk).2 (ix2 p q) ≤ z
      ↔ 0 ≤ z ∧ ∀ b : Fin 112, b.val < 2 * (k + 1) →
        FloatOps.absf (F := Ideal) (φ := .f32) (mid m c (ix2 p ⟨b.val * 128 + q.val, by omega⟩)) ≤ z) := by
  intro k
  induction k with
  | zero =>
    intro hk h56
    rw [GateUpBlock.lanes_A m c ⟨0, hk⟩ rfl p q, max_le_iff, max_le_iff, entry_eq m c ⟨0, hk⟩ h56, entry_eq m c ⟨0, hk⟩ h56]
    constructor
    · rintro ⟨⟨h, h1⟩, h2⟩
      refine ⟨h, fun b hb => ?_⟩
      have : b.val = 0 ∨ b.val = 1 := by omega
      rcases this with hb | hb
      · simpa [hb] using h1
      · simpa [hb] using h2
    · rintro ⟨h, hb⟩
      refine ⟨⟨h, ?_⟩, ?_⟩
      · simpa using hb ⟨0, by omega⟩ (by decide)
      · simpa using hb ⟨1, by omega⟩ (by decide)
  | succ k ih =>
    intro hk h56
    rw [GateUpBlock.lanes_B m c ⟨k + 1, hk⟩ (by show ¬ (k + 1) % 56 = 0; omega) p q, max_le_iff, max_le_iff, entry_eq m c ⟨k + 1, hk⟩ h56,
      entry_eq m c ⟨k + 1, hk⟩ h56]
    have ih := ih (by omega) (by omega)
    constructor
    · rintro ⟨⟨h, h1⟩, h2⟩
      obtain ⟨hz, hb⟩ := ih.mp h
      refine ⟨hz, fun b hb' => ?_⟩
      by_cases hl : b.val < 2 * (k + 1)
      · exact hb b hl
      have : b.val = 2 * (k + 1) ∨ b.val = 2 * (k + 1) + 1 := by omega
      rcases this with e | e
      · refine le_of_eq_of_le (congrArg (fun i => FloatOps.absf (F := Ideal) (φ := .f32) (mid m c (ix2 p i))) (Fin.ext ?_)) h1
        show b.val * 128 + q.val = (k + 1) * 256 + q.val
        omega
      · refine le_of_eq_of_le (congrArg (fun i => FloatOps.absf (F := Ideal) (φ := .f32) (mid m c (ix2 p i))) (Fin.ext ?_)) h2
        show b.val * 128 + q.val = (k + 1) * 256 + (128 + q.val)
        omega
    · rintro ⟨hz, hb⟩
      refine ⟨⟨ih.mpr ⟨hz, fun b h => hb b (by omega)⟩, ?_⟩, ?_⟩
      · refine le_of_eq_of_le (congrArg (fun i => FloatOps.absf (F := Ideal) (φ := .f32) (mid m c (ix2 p i))) (Fin.ext ?_))
          (hb ⟨2 * (k + 1), by omega⟩ (by show 2 * (k + 1) < 2 * (k + 1 + 1); omega))
        show (k + 1) * 256 + q.val = 2 * (k + 1) * 128 + q.val
        omega
      · refine le_of_eq_of_le (congrArg (fun i => FloatOps.absf (F := Ideal) (φ := .f32) (mid m c (ix2 p i))) (Fin.ext ?_))
          (hb ⟨2 * (k + 1) + 1, by omega⟩ (by show 2 * (k + 1) + 1 < 2 * (k + 1 + 1); omega))
        show (k + 1) * 256 + (128 + q.val) = (2 * (k + 1) + 1) * 128 + q.val
        omega

/-- After the last point the lane maxima are the reference's. -/
theorem last (c : Dev nD) (k : Nat) (hk : k < cfg0.N) (h : k % 56 = 55) (h56 : k < 56) (p : Fin 3072) (q : Fin 128) :
    (outsAt0 m c k hk).2 (ix2 p q) = lanes m c (ix2 p q) := by
  refine eq_of_forall_ge_iff fun z => ?_
  rw [lanes_le m c p q z k hk h56]
  refine Iff.trans ?_ (GateUpReference.max_le _ _ _ _ _ _ p q z).symm
  constructor
  · rintro ⟨-, hb⟩ b
    exact hb b (by omega)
  · intro hb
    exact ⟨(absf_nonneg _).trans (hb ⟨0, by omega⟩), fun b _ => hb b⟩

/-- The lane maxima after the run. -/
theorem final_lanes (c : Dev nD) : (dats m 0 c).arrAt 10 (cfgs 0).N = lanes m c := by
  refine (dats m 0 c).arrAt_eq_of_covers 10 _ (by decide +kernel) fun t hf y => ?_
  have h := (flush0_10 t).mp hf
  blk_simp
  rw [after0_10]
  obtain ⟨-, -, -, -, -, -, -, -, -, -, hi, ht⟩ := idx t
  have hy := eq_ix2 (show S3072x128.Idx from y)
  refine (congrArg (outsAt0 m c t.val t.isLt).2 hy).trans ((last m c t.val t.isLt h ht _ _).trans (congrArg _ ?_))
  blk_ext [hi]

end Cert.Proof.GateUpValue
end
-- ==== Proof.GateUpClaim.lean ====
/-
  THE CLAIMS ABOUT THE FEED-FORWARD'S FIRST PRODUCT: the reference's frame and the equation of the results.
-/
module

public import proofs.«01_k».proof.Defs
public import proofs.«01_k».proof.Proof.GateUpValue
public import proofs.«01_k».proof.Proof.Gen.GateUpReferenceIdeal.Run

@[expose] public section

set_option maxRecDepth 16384

noncomputable section

namespace Cert.Proof.GateUpClaim

open Idealize.ShloMosaic Idealize.SL.Sem

/-- The reference ends with its arguments and semaphores as they were. -/
theorem reference_frame : quiescent_GateUpReferenceIdeal (hGateUpReferenceIdeal := Cert.GateUpReferenceIdeal.Gen.facts) := by
  intro m ρ _
  refine (θ_run _ _ _).mono (fun r h => ⟨fun c => (h c).2.2, funext fun g => ?_⟩) (Cert.GateUpReferenceIdeal.Value.run m ρ)
  exact ((by decide : ∀ _ : SemLoc Cert.GateUpReferenceIdeal.sig, False) g.2).elim

/-- Kernel and reference leave the same two arrays. -/
theorem equation : algebraic_GateUpIdeal_GateUpReferenceIdeal (hGateUpIdeal := Cert.GateUpIdeal.Gen.facts)
    (hGateUpReferenceIdeal := Cert.GateUpReferenceIdeal.Gen.facts) := by
  intro m g m' g' _ hagree
  refine ⟨fun c => (Cert.GateUpIdeal.Gen.dats m 0 c).arrAt 9 Cert.GateUpIdeal.cfg0.N,
    fun c => (Cert.GateUpIdeal.Gen.dats m 0 c).arrAt 10 Cert.GateUpIdeal.cfg0.N, Cert.GateUpIdeal.Value.run_blocks m g, ?_⟩
  refine (θ_run _ _ _).mono (fun r h c => ⟨(h c).1.trans ?_, (h c).2.1.trans ?_, (h c).2.2⟩) (Cert.GateUpReferenceIdeal.Value.run m' g')
  all_goals obtain ⟨h0, h1, h2, h3, h4, h5⟩ := hagree c
  · refine (Cert.GateUpReferenceIdeal.Read.val_main_v54_eq (F := Ideal) m' c).trans ?_
    rw [h0, h1, h2, h3, h4, h5]
    exact (GateUpValue.final m c).symm
  · refine (Cert.GateUpReferenceIdeal.Read.val_main_v57_eq (F := Ideal) m' c).trans ?_
    rw [h0, h1, h2, h3, h4, h5]
    exact (GateUpValue.final_lanes m c).symm

end Cert.Proof.GateUpClaim
end
-- ==== Proof.lean ====
module

public import proofs.«01_k».proof.Defs
public import proofs.«01_k».proof.Proof.Gen.NormIn
public import proofs.«01_k».proof.Proof.Gen.NormIn.Skeleton
public import proofs.«01_k».proof.Proof.Gen.NormIn.Launch
public import proofs.«01_k».proof.Proof.Gen.NormIn.Points
public import proofs.«01_k».proof.Proof.Gen.NormIn.Frame
public import proofs.«01_k».proof.Proof.Gen.NormInIdeal
public import proofs.«01_k».proof.Proof.Gen.NormInIdeal.Skeleton
public import proofs.«01_k».proof.Proof.Gen.NormInIdeal.Launch
public import proofs.«01_k».proof.Proof.Gen.NormInIdeal.Points
public import proofs.«01_k».proof.Proof.Gen.NormInIdeal.Frame
public import proofs.«01_k».proof.Proof.Gen.NormInReferenceIdeal
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvReferenceIdeal
public import proofs.«01_k».proof.Proof.Gen.Oproj
public import proofs.«01_k».proof.Proof.Gen.Oproj.Skeleton
public import proofs.«01_k».proof.Proof.Gen.Oproj.Launch
public import proofs.«01_k».proof.Proof.Gen.Oproj.Points
public import proofs.«01_k».proof.Proof.Gen.Oproj.Frame
public import proofs.«01_k».proof.Proof.Gen.OprojIdeal
public import proofs.«01_k».proof.Proof.Gen.OprojIdeal.Skeleton
public import proofs.«01_k».proof.Proof.Gen.OprojIdeal.Launch
public import proofs.«01_k».proof.Proof.Gen.OprojIdeal.Points
public import proofs.«01_k».proof.Proof.Gen.OprojIdeal.Frame
public import proofs.«01_k».proof.Proof.Gen.OprojReferenceIdeal
public import proofs.«01_k».proof.Proof.Gen.NormFf
public import proofs.«01_k».proof.Proof.Gen.NormFf.Skeleton
public import proofs.«01_k».proof.Proof.Gen.NormFf.Launch
public import proofs.«01_k».proof.Proof.Gen.NormFf.Points
public import proofs.«01_k».proof.Proof.Gen.NormFf.Frame
public import proofs.«01_k».proof.Proof.Gen.NormFfIdeal
public import proofs.«01_k».proof.Proof.Gen.NormFfIdeal.Skeleton
public import proofs.«01_k».proof.Proof.Gen.NormFfIdeal.Launch
public import proofs.«01_k».proof.Proof.Gen.NormFfIdeal.Points
public import proofs.«01_k».proof.Proof.Gen.NormFfIdeal.Frame
public import proofs.«01_k».proof.Proof.Gen.NormFfReferenceIdeal
public import proofs.«01_k».proof.Proof.Gen.GateUp
public import proofs.«01_k».proof.Proof.Gen.GateUp.Skeleton
public import proofs.«01_k».proof.Proof.Gen.GateUp.Launch
public import proofs.«01_k».proof.Proof.Gen.GateUp.Points
public import proofs.«01_k».proof.Proof.Gen.GateUp.Frame
public import proofs.«01_k».proof.Proof.Gen.GateUpIdeal
public import proofs.«01_k».proof.Proof.Gen.GateUpIdeal.Skeleton
public import proofs.«01_k».proof.Proof.Gen.GateUpIdeal.Launch
public import proofs.«01_k».proof.Proof.Gen.GateUpIdeal.Points
public import proofs.«01_k».proof.Proof.Gen.GateUpIdeal.Frame
public import proofs.«01_k».proof.Proof.Gen.GateUpReferenceIdeal
public import proofs.«01_k».proof.Proof.NormInClaim
public import proofs.«01_k».proof.Proof.QkvClaim
public import proofs.«01_k».proof.Proof.OprojClaim
public import proofs.«01_k».proof.Proof.NormFfClaim
public import proofs.«01_k».proof.Proof.GateUpClaim
public import Idealize.ShloMosaic.Adequacy
public import Idealize.ShloMosaic.Init

@[expose] public section

noncomputable section

namespace Cert.Proof

open Idealize.ShloMosaic Idealize.SL.Sem

theorem claim : Cert.Claim := ⟨Cert.NormIn.Gen.facts, Cert.NormInIdeal.Gen.facts, Cert.NormInReferenceIdeal.Gen.facts, Cert.Qkv.Gen.facts, Cert.QkvIdeal.Gen.facts, Cert.QkvReferenceIdeal.Gen.facts, Cert.Oproj.Gen.facts, Cert.OprojIdeal.Gen.facts, Cert.OprojReferenceIdeal.Gen.facts, Cert.NormFf.Gen.facts, Cert.NormFfIdeal.Gen.facts, Cert.NormFfReferenceIdeal.Gen.facts, Cert.GateUp.Gen.facts, Cert.GateUpIdeal.Gen.facts, Cert.GateUpReferenceIdeal.Gen.facts, by
  exact ⟨fun m ρ _ => Cert.NormIn.Gen.frame m ρ, fun m ρ _ => Cert.NormInIdeal.Gen.frame m ρ, NormInClaim.reference_frame,
    fun m ρ _ => Cert.Qkv.Gen.frame m ρ, fun m ρ _ => Cert.QkvIdeal.Gen.frame m ρ, QkvClaim.reference_frame,
    fun m ρ _ => Cert.Oproj.Gen.frame m ρ, fun m ρ _ => Cert.OprojIdeal.Gen.frame m ρ, OprojClaim.reference_frame,
    fun m ρ _ => Cert.NormFf.Gen.frame m ρ, fun m ρ _ => Cert.NormFfIdeal.Gen.frame m ρ, NormFfClaim.reference_frame,
    fun m ρ _ => Cert.GateUp.Gen.frame m ρ, fun m ρ _ => Cert.GateUpIdeal.Gen.frame m ρ, GateUpClaim.reference_frame,
    trivial, NormInClaim.equation,
    trivial, QkvClaim.equation,
    trivial, OprojClaim.equation,
    trivial, NormFfClaim.equation,
    trivial, GateUpClaim.equation⟩⟩

end Cert.Proof

end
